-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![8192, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S8x512 : Shape := ⟨2, ![8, 512]⟩
abbrev S8 : Shape := ⟨1, ![8]⟩
abbrev S_ : Shape := ⟨0, ![]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S4x512 : Shape := ⟨2, ![4, 512]⟩
abbrev S2x512 : Shape := ⟨2, ![2, 512]⟩
abbrev S1x512 : Shape := ⟨2, ![1, 512]⟩
abbrev S1 : Shape := ⟨1, ![1]⟩
abbrev S31x512 : Shape := ⟨2, ![31, 512]⟩
abbrev S30x512 : Shape := ⟨2, ![30, 512]⟩
abbrev S28x512 : Shape := ⟨2, ![28, 512]⟩
abbrev S24x512 : Shape := ⟨2, ![24, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x512, .bf16⟩
  | .local _ .vmem, ⟨0, _⟩ => ⟨S1024x512, .f32⟩
  | .local _ .vmem, ⟨1, _⟩ => ⟨S1024x512, .bf16⟩
  | .local _ .vmem, ⟨2, _⟩ => ⟨S8x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .ne v5 c0_i32_0
  v6

def k0_dev1 : Nat :=
  let c0_i32_276 : BitVec 32 := 0#32
  let c0_i32_274 : BitVec 32 := 0#32
  let c1_i32_275 : BitVec 32 := 1#32
  let v1051 : BitVec 32 := Scalar.muli c0_i32_274 c1_i32_275
  let v1052 : BitVec 32 := Scalar.addi c0_i32_276 v1051
  v1052.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .sgt v2 c1_i32_1
  let v8 : BitVec 32 := Scalar.extui v7
  let c0_i32_2 : BitVec 32 := 0#32
  let v9 : BitVec 1 := Scalar.cmpi .ne v8 c0_i32_2
  v9

def k0_dev2 : Nat :=
  let c0_i32_276 : BitVec 32 := 0#32
  let c1_i32_274 : BitVec 32 := 1#32
  let c1_i32_275 : BitVec 32 := 1#32
  let v1051 : BitVec 32 := Scalar.muli c1_i32_274 c1_i32_275
  let v1052 : BitVec 32 := Scalar.addi c0_i32_276 v1051
  v1052.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .sgt v2 c2_i32
  let v11 : BitVec 32 := Scalar.extui v10
  let c0_i32_3 : BitVec 32 := 0#32
  let v12 : BitVec 1 := Scalar.cmpi .ne v11 c0_i32_3
  v12

def k0_dev3 : Nat :=
  let c0_i32_276 : BitVec 32 := 0#32
  let c2_i32_274 : BitVec 32 := 2#32
  let c1_i32_275 : BitVec 32 := 1#32
  let v1051 : BitVec 32 := Scalar.muli c2_i32_274 c1_i32_275
  let v1052 : BitVec 32 := Scalar.addi c0_i32_276 v1051
  v1052.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .sgt v2 c3_i32
  let v14 : BitVec 32 := Scalar.extui v13
  let c0_i32_4 : BitVec 32 := 0#32
  let v15 : BitVec 1 := Scalar.cmpi .ne v14 c0_i32_4
  v15

def k0_dev4 : Nat :=
  let c0_i32_276 : BitVec 32 := 0#32
  let c3_i32_274 : BitVec 32 := 3#32
  let c1_i32_275 : BitVec 32 := 1#32
  let v1051 : BitVec 32 := Scalar.muli c3_i32_274 c1_i32_275
  let v1052 : BitVec 32 := Scalar.addi c0_i32_276 v1051
  v1052.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .sgt v2 c4_i32
  let v17 : BitVec 32 := Scalar.extui v16
  let c0_i32_5 : BitVec 32 := 0#32
  let v18 : BitVec 1 := Scalar.cmpi .ne v17 c0_i32_5
  v18

def k0_dev5 : Nat :=
  let c0_i32_276 : BitVec 32 := 0#32
  let c4_i32_274 : BitVec 32 := 4#32
  let c1_i32_275 : BitVec 32 := 1#32
  let v1051 : BitVec 32 := Scalar.muli c4_i32_274 c1_i32_275
  let v1052 : BitVec 32 := Scalar.addi c0_i32_276 v1051
  v1052.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .sgt v2 c5_i32
  let v20 : BitVec 32 := Scalar.extui v19
  let c0_i32_6 : BitVec 32 := 0#32
  let v21 : BitVec 1 := Scalar.cmpi .ne v20 c0_i32_6
  v21

def k0_dev6 : Nat :=
  let c0_i32_276 : BitVec 32 := 0#32
  let c5_i32_274 : BitVec 32 := 5#32
  let c1_i32_275 : BitVec 32 := 1#32
  let v1051 : BitVec 32 := Scalar.muli c5_i32_274 c1_i32_275
  let v1052 : BitVec 32 := Scalar.addi c0_i32_276 v1051
  v1052.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .sgt v2 c6_i32
  let v23 : BitVec 32 := Scalar.extui v22
  let c0_i32_7 : BitVec 32 := 0#32
  let v24 : BitVec 1 := Scalar.cmpi .ne v23 c0_i32_7
  v24

def k0_dev7 : Nat :=
  let c0_i32_276 : BitVec 32 := 0#32
  let c6_i32_274 : BitVec 32 := 6#32
  let c1_i32_275 : BitVec 32 := 1#32
  let v1051 : BitVec 32 := Scalar.muli c6_i32_274 c1_i32_275
  let v1052 : BitVec 32 := Scalar.addi c0_i32_276 v1051
  v1052.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v57 : Index := Scalar.indexCast v2
  let c0_9 : Index := 0#32
  ![v57.toNat, 0]
def k0_amt1 (d0 : Dev nD) : BitVec 32 :=
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v61 : BitVec 32 := Scalar.subi c7_i32 v2
  v61

def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v62 : BitVec 1 := Scalar.cmpi .slt v2 c1_i32_10
  let v63 : BitVec 32 := Scalar.extui v62
  let c0_i32_11 : BitVec 32 := 0#32
  let v64 : BitVec 1 := Scalar.cmpi .ne v63 c0_i32_11
  v64

def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_277 : BitVec 32 := 0#32
  ![v2.toNat, 0]
def k0_dev8 : Nat :=
  let c0_i32_276 : BitVec 32 := 0#32
  let c1_i32_274 : BitVec 32 := 1#32
  let c1_i32_275 : BitVec 32 := 1#32
  let v1051 : BitVec 32 := Scalar.muli c1_i32_274 c1_i32_275
  let v1052 : BitVec 32 := Scalar.addi c0_i32_276 v1051
  v1052.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_12 : BitVec 32 := 2#32
  let v65 : BitVec 1 := Scalar.cmpi .slt v2 c2_i32_12
  let v66 : BitVec 32 := Scalar.extui v65
  let c0_i32_13 : BitVec 32 := 0#32
  let v67 : BitVec 1 := Scalar.cmpi .ne v66 c0_i32_13
  v67

def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_277 : BitVec 32 := 0#32
  ![v2.toNat, 0]
def k0_dev9 : Nat :=
  let c0_i32_276 : BitVec 32 := 0#32
  let c2_i32_274 : BitVec 32 := 2#32
  let c1_i32_275 : BitVec 32 := 1#32
  let v1051 : BitVec 32 := Scalar.muli c2_i32_274 c1_i32_275
  let v1052 : BitVec 32 := Scalar.addi c0_i32_276 v1051
  v1052.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_14 : BitVec 32 := 3#32
  let v68 : BitVec 1 := Scalar.cmpi .slt v2 c3_i32_14
  let v69 : BitVec 32 := Scalar.extui v68
  let c0_i32_15 : BitVec 32 := 0#32
  let v70 : BitVec 1 := Scalar.cmpi .ne v69 c0_i32_15
  v70

def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_277 : BitVec 32 := 0#32
  ![v2.toNat, 0]
def k0_dev10 : Nat :=
  let c0_i32_276 : BitVec 32 := 0#32
  let c3_i32_274 : BitVec 32 := 3#32
  let c1_i32_275 : BitVec 32 := 1#32
  let v1051 : BitVec 32 := Scalar.muli c3_i32_274 c1_i32_275
  let v1052 : BitVec 32 := Scalar.addi c0_i32_276 v1051
  v1052.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_16 : BitVec 32 := 4#32
  let v71 : BitVec 1 := Scalar.cmpi .slt v2 c4_i32_16
  let v72 : BitVec 32 := Scalar.extui v71
  let c0_i32_17 : BitVec 32 := 0#32
  let v73 : BitVec 1 := Scalar.cmpi .ne v72 c0_i32_17
  v73

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_277 : BitVec 32 := 0#32
  ![v2.toNat, 0]
def k0_dev11 : Nat :=
  let c0_i32_276 : BitVec 32 := 0#32
  let c4_i32_274 : BitVec 32 := 4#32
  let c1_i32_275 : BitVec 32 := 1#32
  let v1051 : BitVec 32 := Scalar.muli c4_i32_274 c1_i32_275
  let v1052 : BitVec 32 := Scalar.addi c0_i32_276 v1051
  v1052.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_18 : BitVec 32 := 5#32
  let v74 : BitVec 1 := Scalar.cmpi .slt v2 c5_i32_18
  let v75 : BitVec 32 := Scalar.extui v74
  let c0_i32_19 : BitVec 32 := 0#32
  let v76 : BitVec 1 := Scalar.cmpi .ne v75 c0_i32_19
  v76

def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_277 : BitVec 32 := 0#32
  ![v2.toNat, 0]
def k0_dev12 : Nat :=
  let c0_i32_276 : BitVec 32 := 0#32
  let c5_i32_274 : BitVec 32 := 5#32
  let c1_i32_275 : BitVec 32 := 1#32
  let v1051 : BitVec 32 := Scalar.muli c5_i32_274 c1_i32_275
  let v1052 : BitVec 32 := Scalar.addi c0_i32_276 v1051
  v1052.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_20 : BitVec 32 := 6#32
  let v77 : BitVec 1 := Scalar.cmpi .slt v2 c6_i32_20
  let v78 : BitVec 32 := Scalar.extui v77
  let c0_i32_21 : BitVec 32 := 0#32
  let v79 : BitVec 1 := Scalar.cmpi .ne v78 c0_i32_21
  v79

def k0_off12 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_277 : BitVec 32 := 0#32
  ![v2.toNat, 0]
def k0_dev13 : Nat :=
  let c0_i32_276 : BitVec 32 := 0#32
  let c6_i32_274 : BitVec 32 := 6#32
  let c1_i32_275 : BitVec 32 := 1#32
  let v1051 : BitVec 32 := Scalar.muli c6_i32_274 c1_i32_275
  let v1052 : BitVec 32 := Scalar.addi c0_i32_276 v1051
  v1052.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_22 : BitVec 32 := 7#32
  let v80 : BitVec 1 := Scalar.cmpi .slt v2 c7_i32_22
  let v81 : BitVec 32 := Scalar.extui v80
  let c0_i32_23 : BitVec 32 := 0#32
  let v82 : BitVec 1 := Scalar.cmpi .ne v81 c0_i32_23
  v82

def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_277 : BitVec 32 := 0#32
  ![v2.toNat, 0]
def k0_dev14 : Nat :=
  let c0_i32_276 : BitVec 32 := 0#32
  let c7_i32_274 : BitVec 32 := 7#32
  let c1_i32_275 : BitVec 32 := 1#32
  let v1051 : BitVec 32 := Scalar.muli c7_i32_274 c1_i32_275
  let v1052 : BitVec 32 := Scalar.addi c0_i32_276 v1051
  v1052.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_259 : BitVec 32 := 1#32
  let v1030 : BitVec 1 := Scalar.cmpi .slt v2 c1_i32_259
  let v1031 : BitVec 32 := Scalar.extui v1030
  let c0_i32_260 : BitVec 32 := 0#32
  let v1032 : BitVec 1 := Scalar.cmpi .ne v1031 c0_i32_260
  v1032

def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_276 : BitVec 32 := 0#32
  ![v2.toNat, 0]
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_261 : BitVec 32 := 2#32
  let v1033 : BitVec 1 := Scalar.cmpi .slt v2 c2_i32_261
  let v1034 : BitVec 32 := Scalar.extui v1033
  let c0_i32_262 : BitVec 32 := 0#32
  let v1035 : BitVec 1 := Scalar.cmpi .ne v1034 c0_i32_262
  v1035

def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_276 : BitVec 32 := 0#32
  ![v2.toNat, 0]
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_263 : BitVec 32 := 3#32
  let v1036 : BitVec 1 := Scalar.cmpi .slt v2 c3_i32_263
  let v1037 : BitVec 32 := Scalar.extui v1036
  let c0_i32_264 : BitVec 32 := 0#32
  let v1038 : BitVec 1 := Scalar.cmpi .ne v1037 c0_i32_264
  v1038

def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_276 : BitVec 32 := 0#32
  ![v2.toNat, 0]
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_265 : BitVec 32 := 4#32
  let v1039 : BitVec 1 := Scalar.cmpi .slt v2 c4_i32_265
  let v1040 : BitVec 32 := Scalar.extui v1039
  let c0_i32_266 : BitVec 32 := 0#32
  let v1041 : BitVec 1 := Scalar.cmpi .ne v1040 c0_i32_266
  v1041

def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_276 : BitVec 32 := 0#32
  ![v2.toNat, 0]
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_267 : BitVec 32 := 5#32
  let v1042 : BitVec 1 := Scalar.cmpi .slt v2 c5_i32_267
  let v1043 : BitVec 32 := Scalar.extui v1042
  let c0_i32_268 : BitVec 32 := 0#32
  let v1044 : BitVec 1 := Scalar.cmpi .ne v1043 c0_i32_268
  v1044

def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_276 : BitVec 32 := 0#32
  ![v2.toNat, 0]
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_269 : BitVec 32 := 6#32
  let v1045 : BitVec 1 := Scalar.cmpi .slt v2 c6_i32_269
  let v1046 : BitVec 32 := Scalar.extui v1045
  let c0_i32_270 : BitVec 32 := 0#32
  let v1047 : BitVec 1 := Scalar.cmpi .ne v1046 c0_i32_270
  v1047

def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_276 : BitVec 32 := 0#32
  ![v2.toNat, 0]
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_271 : BitVec 32 := 7#32
  let v1048 : BitVec 1 := Scalar.cmpi .slt v2 c7_i32_271
  let v1049 : BitVec 32 := Scalar.extui v1048
  let c0_i32_272 : BitVec 32 := 0#32
  let v1050 : BitVec 1 := Scalar.cmpi .ne v1049 c0_i32_272
  v1050

def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_276 : BitVec 32 := 0#32
  ![v2.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S_ : Shape := ⟨0, ![]⟩
abbrev S512 : Shape := ⟨1, ![512]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S8192x512, .f32⟩
  | .hbm, ⟨5, _⟩ => ⟨S_, .i32⟩
  | .hbm, ⟨6, _⟩ => ⟨S8192x512, .f32⟩
  | .hbm, ⟨7, _⟩ => ⟨S_, .i32⟩
  | .hbm, ⟨8, _⟩ => ⟨S512, .f32⟩
  | .hbm, ⟨9, _⟩ => ⟨S8192x512, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x512, .f32⟩
  | .hbm, ⟨14, _⟩ => ⟨S512, .f32⟩
  | .hbm, ⟨15, _⟩ => ⟨S512, .f32⟩
  | .hbm, ⟨16, _⟩ => ⟨S1x512, .f32⟩
  | .hbm, ⟨17, _⟩ => ⟨S_, .i32⟩
  | .hbm, ⟨18, _⟩ => ⟨S8192x512, .f32⟩
  | .hbm, ⟨19, _⟩ => ⟨S_, .i32⟩
  | .hbm, ⟨20, _⟩ => ⟨S_, .i32⟩
  | .hbm, ⟨21, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v4 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v4 : Ref sig .tc := ⟨.hbm, 14, rfl⟩
abbrev main_while0b_v5 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v6 : Ref sig .tc := ⟨.hbm, 18, rfl⟩
abbrev main_while0b_c_4 : Ref sig .tc := ⟨.hbm, 19, rfl⟩
abbrev main_while0b_v7 : Ref sig .tc := ⟨.hbm, 20, rfl⟩
abbrev main_v3 : Ref sig .tc := ⟨.hbm, 21, rfl⟩

abbrev nD : Nat := 1
abbrev τ : Topo := Topo.v7x

variable {F : FTy → Type} [FloatOps F]

abbrev main_while0_count : Scf.Loop 32 := ⟨0#32, 8192#32, 1#32⟩
-- ==== Proof.Protocol.lean ====
/-
The protocol of the distributed running product: which semaphore cells the devices use, what each raise of a cell
hands to the cell's owner, and what each device owes at launch.

Device `c` signals the barrier of every lower device, handing over its own row of that device's table of totals:
signal `j < c` on `c`'s side carries the row `c → j`, i.e. row `j` of `c`'s table. It then computes its own total,
stores it in row `c` of its table, waits until every higher device has signalled, and copies its row into row `c` of
every higher device's table. A copy raises the sender's send semaphore (giving back the share of the row it read) and
the receiver's receive semaphore (giving it the filled row).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.ValueIdxCore
public import Idealize.ShloMosaic.Lib.Transfers
public import Idealize.ShloMosaic.Lib.Ring
public import Idealize.ShloMosaic.Lib.Tactic

@[expose] public section

noncomputable section

namespace Cert.Cumprod

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop pointsTo_toks_split pointsTo_toks_join)
open Idealize.ShloMosaic.Rounds Idealize.ShloMosaic.ValueIdx
open Idealize.ShloMosaic.Pipeline (Dat Cfg Window BodyObligation cellOf)

variable {F : FTy → Type} [FloatOps F]

/-! ## The resource algebra: the pipeline's copy and the protocol's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The buffers and the semaphore cells -/

abbrev xM : Memref sig .tc .vmem S1024x512 .f32 := Memref.whole cc0_stg0_0
abbrev oM : Memref sig .tc .vmem S1024x512 .bf16 := Memref.whole cc0_stg1_0
abbrev tM : Memref sig .tc .vmem S8x512 .f32 := Memref.whole cc0_scratch0

abbrev barS : Sem sig := (SemArray.scalar (sig.barrier 0 rfl) : Sems sig S_).sem
/-- The `k`-th send semaphore and the `j`-th receive semaphore. -/
def sendS (k : Dev nD) : DmaSem sig := ⟨2 + k.val, by have : k.val < 8 := k.isLt; show _ < 18; omega⟩
def recvS (j : Dev nD) : DmaSem sig := ⟨10 + j.val, by have : j.val < 8 := j.isLt; show _ < 18; omega⟩

/-- The send (receive) semaphore the program names by slicing the semaphore array at a computed offset. -/
theorem sendS_eq {off : Fin 1 → Nat} (h) (k : Dev nD) (ho : off = ![k.val]) :
    (((cc0_scratch1 : DmaSems sig S8).slice (Rect.unit (s := S8) off S1.size h)).squeeze S_ squeezes_S1_S_).sem = sendS k := by
  subst ho; revert k; decide
theorem recvS_eq {off : Fin 1 → Nat} (h) (k : Dev nD) (ho : off = ![k.val]) :
    (((cc0_scratch2 : DmaSems sig S8).slice (Rect.unit (s := S8) off S1.size h)).squeeze S_ squeezes_S1_S_).sem = recvS k := by
  subst ho; revert k; decide

abbrev barCell (c : Dev nD) : GSem nD τ sig := ((c : Thread nD τ), .reg barS)
abbrev sendCell (c k : Dev nD) : GSem nD τ sig := ((c : Thread nD τ), .dma (sendS k))
abbrev recvCell (c j : Dev nD) : GSem nD τ sig := ((c : Thread nD τ), .dma (recvS j))

/-! ## The rows of the table of totals -/

theorem row_inb (j : Dev nD) : ∀ a, (![j.val, 0] : Fin 2 → Nat) a + S1x512.size a ≤ S8x512.size a := by
  have : j.val < 8 := j.isLt
  intro a; fin_cases a
  · show j.val + 1 ≤ 8; omega
  · show 0 + 512 ≤ 512; omega

/-- Row `j` of a device's table. -/
abbrev rowM (j : Dev nD) : Memref sig .tc .vmem S1x512 .f32 :=
  (tM).slice (Rect.unit (s := S8x512) ![j.val, 0] S1x512.size (row_inb j)) (fun _ => rfl)

abbrev N : ℕ := (rowM 0).view.dmaCredit
theorem N_pos : 0 < N := View.dmaCredit_pos _ (by decide)
theorem N_eq (j : Dev nD) : (rowM j).view.dmaCredit = N := rfl

/-- The elements of row `j`. -/
def rowSet (j : Dev nD) : Finset (Shape.Idx S8x512) := (rowM j).view.set

theorem mem_rowSet {j : Dev nD} {i : Shape.Idx S8x512} : i ∈ rowSet j ↔ (i 0).val = j.val := by
  have h1 : (i 1).val < 512 := (i 1).isLt
  refine ValueKit.mem_set_slice_whole_iff cc0_scratch0 _ i (Rect.mem_set_unit.trans ?_)
  constructor
  · intro h; have := h 0; change j.val ≤ (i 0).val ∧ (i 0).val < j.val + 1 at this; omega
  · intro h a; fin_cases a
    · show j.val ≤ (i 0).val ∧ (i 0).val < j.val + 1; omega
    · show 0 ≤ (i 1).val ∧ (i 1).val < 0 + 512; omega

theorem rows_disjoint (j k : Dev nD) (h : j ≠ k) : Disjoint (rowSet j) (rowSet k) :=
  Finset.disjoint_left.mpr fun i hj hk => h (Fin.ext ((mem_rowSet.mp hj).symm.trans (mem_rowSet.mp hk)))

theorem rows_cover : (Finset.univ : Finset (Dev nD)).biUnion rowSet = Finset.univ := by
  ext i; simp only [Finset.mem_biUnion, Finset.mem_univ, true_and, iff_true]
  exact ⟨⟨(i 0).val, (i 0).isLt⟩, mem_rowSet.mpr rfl⟩

/-- Row `j` of device `c`'s table at share `q`. -/
def rowPts (c j : Dev nD) (q : PosShare TreeShare) (f : Buf (Elt F) ((c : Thread nD τ).loc cc0_scratch0)) : sProp 𝕄 :=
  ((c : Thread nD τ).loc cc0_scratch0) ↦[rowSet j]{q} f

omit [FloatOps F] in
instance rowPts_storable (c j q f) : BI.Storable (upEmb : UEmb _ 𝕄) (rowPts (F := F) c j q f) := by unfold rowPts; infer_instance

/-! ## Contents -/

/-- Device `c`'s block of `x`, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- The total product of a block, column by column. -/
def tot (x : Vec F S1024x512 .f32) : FVec F S1x512 .f32 := k0_pay4 (k0_pay2 x) (k0_pay3 x)

/-- The table of all devices' totals: row `j` is device `j`'s. -/
def totBuf : (cc0_scratch0 : Ref sig .tc).ty.Contents (Elt F) :=
  fun i => tot (xstg m ρ ⟨(i 0).val, (i 0).isLt⟩) (ix2 (0 : Fin 1) (⟨(i 1).val, (i 1).isLt⟩ : Fin 512))

/-- Row `j` of the table reads device `j`'s total. -/
theorem read_totBuf (j : Dev nD) : (rowM j).view.read (Elt F) (totBuf m ρ) = tot (xstg m ρ j) := by
  funext x
  rw [View.read_apply]
  show totBuf m ρ ((rowM j).view.emb x) = _
  have h0 : (((rowM j).view.emb x) 0 : Nat) = j.val := by
    have := ValueKit.view_emb_slice_whole_unit_val cc0_scratch0 ![j.val, 0] S1x512.size (row_inb j) x 0
    have hx : (x 0).val < 1 := (x 0).isLt
    change _ = j.val + (x 0).val at this
    exact this.trans (by omega)
  have h1 : (((rowM j).view.emb x) 1 : Nat) = (x 1).val := by
    have := ValueKit.view_emb_slice_whole_unit_val cc0_scratch0 ![j.val, 0] S1x512.size (row_inb j) x 1
    change _ = 0 + (x 1).val at this
    exact this.trans (by omega)
  unfold totBuf
  have e0 : (⟨(((rowM j).view.emb x) 0).val, (((rowM j).view.emb x) 0).isLt⟩ : Dev nD) = j := Fin.ext h0
  have e1 : (ix2 (0 : Fin 1) (⟨(((rowM j).view.emb x) 1).val, (((rowM j).view.emb x) 1).isLt⟩ : Fin 512)) = x := by
    refine (congrArg (ix2 (0 : Fin 1)) (Fin.ext h1)).trans ?_
    funext a; fin_cases a
    · exact Fin.ext (by have hx : (x 0).val < 1 := (x 0).isLt; show 0 = (x 0).val; omega)
    · rfl
  exact (congrArg (fun d => tot (xstg m ρ d) _) e0).trans (congrArg _ e1)

/-- Writing what a row of one table holds into the same row of another copies the row. -/
theorem pts_copy (c j : Dev nD) (q) (fd fs : Buf (Elt F) ((c : Thread nD τ).loc cc0_scratch0)) (w : FVec F S1x512 .f32)
    (hw : w = (rowM j).view.read (Elt F) fs) :
    rowPts c j q ((rowM j).view.write (Elt F) fd w Finset.univ) = rowPts c j q fs := by
  subst hw
  unfold rowPts rowSet
  refine pointsTo_congr fun i hi => ?_
  obtain ⟨x, rfl⟩ := View.exists_emb_of_mem_set _ hi
  rw [View.write_emb_of_mem _ _ (Finset.mem_univ x), View.read_apply]
  exact cast_eq _ _

/-! ## The schedule -/

/-- What device `d`'s signal hands the owner `c` of a barrier: row `c` of device `d`'s table. -/
def barPay (c d : Dev nD) : sProp 𝕄 := iprop(∃ f, rowPts d c fullShare f)
/-- What the copy of device `c`'s row to device `k` gives back to `c`: the share of the row it read. -/
def sendPay (c k : Dev nD) : sProp 𝕄 := rowPts c c (shareTok fullShare 8 k) (totBuf m ρ)
/-- What the copy from device `j` gives device `c`: row `j` of its table, filled. -/
def recvPay (c j : Dev nD) : sProp 𝕄 := rowPts c j fullShare (totBuf m ρ)

/-- The device a send or receive semaphore is indexed by: send semaphores start at 2, receive semaphores at 10. -/
def semIx (q : DmaSem sig) : Dev nD := ⟨(q.val + 6) % 8, Nat.mod_lt _ (by decide)⟩
theorem semIx_send (k : Dev nD) : semIx (sendS k) = k := by revert k; decide
theorem semIx_recv (k : Dev nD) : semIx (recvS k) = k := by revert k; decide
theorem send_lt (k : Dev nD) : (sendS k).val < 10 := by revert k; decide
theorem recv_not_lt (k : Dev nD) : ¬ (recvS k).val < 10 := by revert k; decide

/-- The duties of a cell in its one round: of a barrier, one for each higher device; of a send semaphore `k`, one if `k` is
    higher; of a receive semaphore `j`, one if `j` is lower. -/
def duties₀ (c : Dev nD) : SemLoc sig → Finset (Dev nD)
  | .reg _ => Finset.univ.filter fun k => c < k
  | .dma q => if q.val < 10 then (if c < semIx q then {0} else ∅) else (if semIx q < c then {0} else ∅)

def amount₀ : SemLoc sig → ℕ
  | .reg _ => 1
  | .dma _ => N

def payload₀ (c : Dev nD) (d : Dev nD) : SemLoc sig → sProp 𝕄
  | .reg _ => barPay c d
  | .dma q => if q.val < 10 then sendPay m ρ c (semIx q) else recvPay m ρ c (semIx q)

def Rd : Rounds.Schedule (GSem nD τ sig) (Dev nD) 𝕄 where
  duties g r := if r = 0 ∧ g.1.2 = .tc then duties₀ g.1.1 g.2 else ∅
  unitless _ := False
  amount g _ _ := amount₀ g.2
  payload g _ d := payload₀ m ρ g.1.1 d g.2
  amount_pos g _ _ _ := by
    rcases g with ⟨_, _ | _⟩
    · exact Nat.one_pos
    · exact N_pos

omit [FloatOps F] in
instance barPay_storable (c d) : BI.Storable (upEmb : UEmb _ 𝕄) (barPay (F := F) c d) := by unfold barPay; infer_instance
instance sendPay_storable (c k) : BI.Storable (upEmb : UEmb _ 𝕄) (sendPay (F := F) m ρ c k) := by unfold sendPay; infer_instance
instance recvPay_storable (c k) : BI.Storable (upEmb : UEmb _ 𝕄) (recvPay (F := F) m ρ c k) := by unfold recvPay; infer_instance

instance Rd_payload_storable (g : GSem nD τ sig) (r : ℕ) (d : Dev nD) :
    BI.Storable (upEmb : UEmb _ 𝕄) ((Rd (F := F) m ρ).payload g r d) := by
  rcases g with ⟨t, q | q⟩
  · exact barPay_storable _ _
  · show BI.Storable upEmb (if q.val < 10 then sendPay m ρ t.1 (semIx q) else recvPay m ρ t.1 (semIx q))
    split <;> infer_instance

theorem duties_bar (c : Dev nD) : (Rd (F := F) m ρ).duties (barCell c) 0 = Finset.univ.filter fun k => c < k := by
  show (if 0 = 0 ∧ (Proc.tc : Proc τ) = .tc then Finset.univ.filter (fun k => c < k) else ∅) = _
  rw [if_pos ⟨rfl, rfl⟩]
theorem duties_send {c k : Dev nD} (h : c < k) : (Rd (F := F) m ρ).duties (sendCell c k) 0 = {0} := by
  show (if 0 = 0 ∧ (Proc.tc : Proc τ) = .tc then (if (sendS k).val < 10 then (if c < semIx (sendS k) then ({0} : Finset (Dev nD)) else ∅) else (if semIx (sendS k) < c then {0} else ∅)) else ∅) = _
  rw [if_pos ⟨rfl, rfl⟩, if_pos (send_lt k), semIx_send, if_pos h]
theorem duties_recv {c j : Dev nD} (h : j < c) : (Rd (F := F) m ρ).duties (recvCell c j) 0 = {0} := by
  show (if 0 = 0 ∧ (Proc.tc : Proc τ) = .tc then (if (recvS j).val < 10 then (if c < semIx (recvS j) then ({0} : Finset (Dev nD)) else ∅) else (if semIx (recvS j) < c then {0} else ∅)) else ∅) = _
  rw [if_pos ⟨rfl, rfl⟩, if_neg (recv_not_lt j), semIx_recv, if_pos h]
theorem duties_send_none {c k : Dev nD} (h : ¬ c < k) : ∀ r, 0 ≤ r → (Rd (F := F) m ρ).duties (sendCell c k) r = ∅ := by
  intro r _
  show (if r = 0 ∧ _ then (if (sendS k).val < 10 then _ else _) else ∅) = _
  rw [if_pos (send_lt k), semIx_send, if_neg h, ite_self]
theorem duties_recv_none {c j : Dev nD} (h : ¬ j < c) : ∀ r, 0 ≤ r → (Rd (F := F) m ρ).duties (recvCell c j) r = ∅ := by
  intro r _
  show (if r = 0 ∧ _ then (if (recvS j).val < 10 then _ else _) else ∅) = _
  rw [if_neg (recv_not_lt j), semIx_recv, if_neg h, ite_self]
theorem duties_later (g : GSem nD τ sig) : ∀ r, 1 ≤ r → (Rd (F := F) m ρ).duties g r = ∅ :=
  fun r hr => if_neg fun h => by omega

theorem payload_bar (c d : Dev nD) : (Rd (F := F) m ρ).payload (barCell c) 0 d = barPay c d := rfl
theorem payload_send (c k d : Dev nD) : (Rd (F := F) m ρ).payload (sendCell c k) 0 d = sendPay m ρ c k := by
  show (if (sendS k).val < 10 then _ else _) = _
  rw [if_pos (send_lt k), semIx_send]
theorem payload_recv (c j d : Dev nD) : (Rd (F := F) m ρ).payload (recvCell c j) 0 d = recvPay m ρ c j := by
  show (if (recvS j).val < 10 then _ else _) = _
  rw [if_neg (recv_not_lt j), semIx_recv]

theorem amount_send (c k d : Dev nD) : (Rd (F := F) m ρ).amount (sendCell c k) 0 d = N := rfl
theorem amount_recv (c j d : Dev nD) : (Rd (F := F) m ρ).amount (recvCell c j) 0 d = N := rfl

theorem expect_bar (c : Dev nD) : (Rd (F := F) m ρ).expect (barCell c) 0 = 7 - c.val := by
  unfold Schedule.expect Schedule.amountOf
  rw [duties_bar]
  show (∑ _ ∈ _, 1) = _
  rw [Finset.sum_const, smul_eq_mul, mul_one]
  revert c; decide
theorem expect_send {c k : Dev nD} (h : c < k) : (Rd (F := F) m ρ).expect (sendCell c k) 0 = N := by
  unfold Schedule.expect Schedule.amountOf; rw [duties_send m ρ h, Finset.sum_singleton]; rfl
theorem expect_recv {c j : Dev nD} (h : j < c) : (Rd (F := F) m ρ).expect (recvCell c j) 0 = N := by
  unfold Schedule.expect Schedule.amountOf; rw [duties_recv m ρ h, Finset.sum_singleton]; rfl

theorem rest_send {c k : Dev nD} (h : c < k) :
    bigSep ((Rd (F := F) m ρ).duties (sendCell c k) 0 \ ∅) (fun d => (Rd (F := F) m ρ).payload (sendCell c k) 0 d) = sendPay m ρ c k := by
  rw [Finset.sdiff_empty, duties_send m ρ h, bigSep_singleton, payload_send]
theorem rest_recv {c j : Dev nD} (h : j < c) :
    bigSep ((Rd (F := F) m ρ).duties (recvCell c j) 0 \ ∅) (fun d => (Rd (F := F) m ρ).payload (recvCell c j) 0 d) = recvPay m ρ c j := by
  rw [Finset.sdiff_empty, duties_recv m ρ h, bigSep_singleton, payload_recv]
/-- A barrier's round hands its owner a row of every higher device. -/
theorem rest_bar (c : Dev nD) :
    bigSep ((Rd (F := F) m ρ).duties (barCell c) 0 \ ∅) (fun d => (Rd (F := F) m ρ).payload (barCell c) 0 d)
      = bigSep Finset.univ fun k : Dev nD => if c < k then barPay c k else iprop(emp) := by
  rw [Finset.sdiff_empty, duties_bar, bigSep_filter]; rfl

/-! ## What each device owes, and the levels -/

/-- The signals device `c` still owes once it has reached device `n`: to each lower device from `n` on, one unit. -/
def sigO (c : Dev nD) (n : ℕ) : CellTallies nD τ sig Unit :=
  ∑ j ∈ Finset.univ.filter (fun j : Dev nD => n ≤ j.val ∧ j < c), tallyAt (barCell j) () 1
/-- The copies device `c` still owes once it has reached device `n`. -/
def sendO (c : Dev nD) (n : ℕ) : CellTallies nD τ sig Unit :=
  ∑ k ∈ Finset.univ.filter (fun k : Dev nD => n ≤ k.val ∧ c < k), tallyAt (recvCell k c) () N
def O₀ (c : Dev nD) : CellTallies nD τ sig Unit := sendO c 1 + sigO c 0

theorem sigO_step {c n : Dev nD} (h : n < c) : sigO c n.val = sigO c (n.val + 1) + tallyAt (barCell n) () 1 := by
  unfold sigO
  rw [add_comm, ← Finset.sum_insert (a := n) (f := fun j : Dev nD => tallyAt (barCell j) () 1) (by simp)]
  refine Finset.sum_congr (Finset.ext fun j => ?_) fun _ _ => rfl
  simp only [Finset.mem_filter, Finset.mem_univ, true_and, Finset.mem_insert, Fin.lt_def, Fin.ext_iff] at h ⊢
  omega
theorem sigO_skip {c n : Dev nD} (h : ¬ n < c) : sigO c n.val = sigO c (n.val + 1) := by
  unfold sigO
  refine Finset.sum_congr (Finset.ext fun j => ?_) fun _ _ => rfl
  simp only [Finset.mem_filter, Finset.mem_univ, true_and, Fin.lt_def] at h ⊢
  omega
theorem sendO_step {c n : Dev nD} (h : c < n) : sendO c n.val = sendO c (n.val + 1) + tallyAt (recvCell n c) () N := by
  unfold sendO
  rw [add_comm, ← Finset.sum_insert (a := n) (f := fun j : Dev nD => tallyAt (recvCell j c) () N) (by simp)]
  refine Finset.sum_congr (Finset.ext fun j => ?_) fun _ _ => rfl
  simp only [Finset.mem_filter, Finset.mem_univ, true_and, Finset.mem_insert, Fin.lt_def, Fin.ext_iff] at h ⊢
  omega
theorem sendO_skip {c n : Dev nD} (h : ¬ c < n) : sendO c n.val = sendO c (n.val + 1) := by
  unfold sendO
  refine Finset.sum_congr (Finset.ext fun j => ?_) fun _ _ => rfl
  simp only [Finset.mem_filter, Finset.mem_univ, true_and, Fin.lt_def] at h ⊢
  omega
theorem sigO_done (c : Dev nD) : sigO c 7 = 0 := by
  unfold sigO
  rw [Finset.filter_false_of_mem, Finset.sum_empty]
  intro j _ h; have : c.val < 8 := c.isLt; have := h.2; rw [Fin.lt_def] at this; omega
theorem sendO_done (c : Dev nD) : sendO c 8 = 0 := by
  unfold sendO
  rw [Finset.filter_false_of_mem, Finset.sum_empty]
  intro j _ h; have : j.val < 8 := j.isLt; omega

def L (g : GSem nD τ sig) : Finset Unit := if g.1.2 = .tc then {()} else ∅
/-- Barriers at level 1, receive cells at 2, everything else at 0. -/
def lv (g : GSem nD τ sig) (_ : Unit) : ℕ :=
  match g.2 with
  | .reg _ => 1
  | .dma q => if q.val < 10 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c j : Dev nD) : lv (recvCell c j) () = 2 := if_neg (recv_not_lt j)
theorem lv_send (c j : Dev nD) : lv (sendCell c j) () = 0 := if_pos (send_lt j)

theorem sendO_pos {c : Dev nD} {n : ℕ} {g : GSem nD τ sig} {u : Unit} (h : 0 < sendO c n g u) : ∃ k, g = recvCell k c := by
  unfold sendO at h
  rw [Finset.sum_apply, Finsupp.finset_sum_apply] at h
  obtain ⟨k, -, hk⟩ := Finset.exists_ne_zero_of_sum_ne_zero h.ne'
  rw [tallyAt_apply] at hk
  exact ⟨k, by by_contra hn; exact hk (if_neg fun h => hn h.1)⟩
theorem sigO_pos {c : Dev nD} {n : ℕ} {g : GSem nD τ sig} {u : Unit} (h : 0 < sigO c n g u) : ∃ k, g = barCell k := by
  unfold sigO at h
  rw [Finset.sum_apply, Finsupp.finset_sum_apply] at h
  obtain ⟨k, -, hk⟩ := Finset.exists_ne_zero_of_sum_ne_zero h.ne'
  rw [tallyAt_apply] at hk
  exact ⟨k, by by_contra hn; exact hk (if_neg fun h => hn h.1)⟩
theorem O₀_pos {c : Dev nD} {g : GSem nD τ sig} {u : Unit} (h : 0 < O₀ c g u) : (∃ k, g = recvCell k c) ∨ ∃ k, g = barCell k := by
  unfold O₀ at h
  rw [Pi.add_apply, Finsupp.add_apply] at h
  rcases Nat.eq_zero_or_pos (sendO c 1 g u) with h' | h'
  · exact Or.inr (sigO_pos (n := 0) (u := u) (by rw [h', zero_add] at h; exact h))
  · exact Or.inl (sendO_pos h')

/-- A wait on a semaphore at level 0 may be made owing what is owed at launch, or nothing. -/
theorem mayWait_stage (c : Dev nD) (q : DmaSem sig) (hq : q.val < 10) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; exact (if_pos hq).le)
      (fun g u hg => by
        rcases O₀_pos hg with ⟨k, rfl⟩ | ⟨k, rfl⟩
        · rw [lv_recv]; decide
        · exact Nat.one_pos)
  · rw [MayWait_zero]; iintro -; iempintro

/-- At its barrier wait a device owes copies only: receive cells, above the barriers. -/
theorem mayWait_bar (c : Dev nD) : (levAts L lv : sProp 𝕄) ⊢ MayWait (c : Thread nD τ) (.reg barS) () (sendO c 1) :=
  MayOwe.of_cut (L := L) (lev := lv) 1 (fun p hp => by rw [Finset.mem_singleton.mp hp, L_tc]; exact Finset.mem_singleton_self _)
    (fun g u hg => by obtain ⟨k, rfl⟩ := sendO_pos hg; exact Finset.mem_singleton_self _)
    (fun p hp => by rw [Finset.mem_singleton.mp hp]; exact Nat.le_refl 1)
    (fun g u hg => by obtain ⟨k, rfl⟩ := sendO_pos hg; rw [lv_recv]; decide)

end Cert.Cumprod
-- ==== Proof.Steps.lean ====
/-
The steps by which a device addresses the others, for every device they may name: the signal to a lower device and the
copy to a higher one. Each is stated at the program text `if the device is lower (higher) then do the step; continue`, and
moves a family of resources, one per device, past the device the step names. The waits are in Waits.
-/
module

public import proofs.«01_k».proof.Proof.Protocol

@[expose] public section

noncomputable section

namespace Cert.Cumprod

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop pointsTo_toks_split pointsTo_toks_join)
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells, indexed -/

/-- A device's scoped semaphores: the send ones, the receive ones; -/
abbrev OI : Type := Dev nD ⊕ Dev nD
/-- and all its cells: the barrier and those. -/
abbrev CI : Type := Unit ⊕ OI

abbrev osem : OI → SemLoc sig := Sum.elim (fun k => .dma (sendS k)) (fun j => .dma (recvS j))
abbrev csem : CI → SemLoc sig := Sum.elim (fun _ => .reg barS) osem
abbrev kcell (ci : Dev nD × CI) : GSem nD τ sig := ((ci.1 : Thread nD τ), csem ci.2)
abbrev iBar (c : Dev nD) : Dev nD × CI := (c, .inl ())
abbrev iSend (c k : Dev nD) : Dev nD × CI := (c, .inr (.inl k))
abbrev iRecv (c j : Dev nD) : Dev nD × CI := (c, .inr (.inr j))

/-- What every device knows: every cell's invariant, that every cell has reached round 0, and the levels. -/
def records (K : Dev nD × CI → ℕ) : sProp 𝕄 :=
  iprop((bigSep Finset.univ fun ci : Dev nD × CI => cellInv ER (Rd m ρ) (K ci) (kcell ci))
    ∗ (bigSep Finset.univ fun ci : Dev nD × CI => reached ER (kcell ci) 0) ∗ levAts L lv)

instance records_persistent (K : Dev nD × CI → ℕ) : BI.Persistent (records m ρ K) := by unfold records; infer_instance

theorem records_inv (K : Dev nD × CI → ℕ) (ci : Dev nD × CI) : records m ρ K ⊢ cellInv ER (Rd m ρ) (K ci) (kcell ci) := by
  unfold records
  exact sep_elim_left.trans (bigSep_elim (Φ := fun ci : Dev nD × CI => (cellInv ER (Rd m ρ) (K ci) (kcell ci) : sProp 𝕄)) (Finset.mem_univ ci))
theorem records_reached (K : Dev nD × CI → ℕ) (ci : Dev nD × CI) : records m ρ K ⊢ reached ER (kcell ci) 0 := by
  unfold records
  exact sep_elim_right.trans (sep_elim_left.trans
    (bigSep_elim (Φ := fun ci : Dev nD × CI => (reached ER (kcell ci) 0 : sProp 𝕄)) (Finset.mem_univ ci)))
theorem records_lev (K : Dev nD × CI → ℕ) : records m ρ K ⊢ levAts L lv := by
  unfold records
  iintro ⟨-, -, H⟩
  iexact H

/-! ## Families of resources -/

omit [FloatOps F] in
/-- One member out of a family, to be put back changed, the others the same. -/
theorem family_step {Φ Ψ : Dev nD → sProp 𝕄} (n : Dev nD) (h : ∀ j, j ≠ n → Φ j = Ψ j) :
    bigSep Finset.univ Φ ⊢ iprop(Φ n ∗ (Ψ n -∗ bigSep Finset.univ Ψ)) := by
  rw [bigSep_univ_at Φ n, bigSep_univ_at Ψ n, bigSep_congr (s := Finset.univ.erase n) (Φ := Φ) (Ψ := Ψ) (fun j hj => h j (Finset.ne_of_mem_erase hj))]
  iintro ⟨H, Hr⟩
  isplitl [H]; · iexact H
  iintro H; isplitl [H] <;> iassumption

theorem ne_lt {j n : Dev nD} (h : j ≠ n) : (j.val < n.val + 1) = (j.val < n.val) :=
  propext ⟨fun h' => by have : j.val ≠ n.val := fun e => h (Fin.ext e); omega, fun h' => by omega⟩

/-- What device `c` holds to signal device `j`, the signals to the devices below `n` made. -/
def sigSt (c : Dev nD) (n : ℕ) (j : Dev nD) : sProp 𝕄 :=
  if j < c then (if j.val < n then iprop(emp) else iprop(dutyTok ER (barCell j) 0 c ∗ ∃ f, rowPts c j fullShare f)) else iprop(emp)

/-- What device `c` owes, at some record of what it has waited for. -/
def owesSome (c : Dev nD) (O : CellTallies nD τ sig Unit) : sProp 𝕄 := iprop(∃ W, owes (c : Thread nD τ) O W)

def sigAll (c : Dev nD) (n : ℕ) : sProp 𝕄 := iprop(bigSep Finset.univ (sigSt c n) ∗ owesSome c (sendO c 1 + sigO c n))

theorem sig_skip {c n : Dev nD} (h : ¬ n < c) : sigAll (F := F) c n.val = sigAll c (n.val + 1) := by
  unfold sigAll
  rw [sigO_skip h, bigSep_congr (Φ := sigSt (F := F) c n.val) (Ψ := sigSt c (n.val + 1)) fun j _ => ?_]
  unfold sigSt
  by_cases hj : j = n
  · subst hj; rw [if_neg h, if_neg h]
  · simp only [ne_lt hj]

/-- The signal to device `n`, made if it is lower. -/
theorem sig_step (K : Dev nD × CI → ℕ) (c n : Dev nD) {C : Prop} [Decidable C] (hC : C ↔ n < c) {d : C → Dev nD} (hd : ∀ h, d h = n)
    {α : Type} {Q : α → sProp 𝕄} {k : Prog (TpuEff nD τ sig (Elt F) Λ₀ .tc) α} :
    iprop(records m ρ K ∗ sigAll c n.val)
      ⊢ iprop((sigAll c (n.val + 1) -∗ wp frame (wpE (defs₀ (F := F)) 𝒱₀ (c : Thread nD τ) none) Set.univ k Q)
          -∗ wp frame (wpE (defs₀ (F := F)) 𝒱₀ (c : Thread nD τ) none) Set.univ
              (if h : C then ((semSignalWord (d h) barS 1#32 : Prog (TpuEff nD τ sig (Elt F) Λ₀ .tc) PUnit) >>= fun _ => k) else k) Q) := by
  by_cases h : C
  · rw [dif_pos h, hd h]
    have hn := hC.mp h
    have fs := family_step (Φ := sigSt (F := F) c n.val) (Ψ := sigSt c (n.val + 1)) n fun j hj => by unfold sigSt; simp only [ne_lt hj]
    have e1 : sigSt (F := F) c n.val n = iprop(dutyTok ER (barCell n) 0 c ∗ ∃ f, rowPts c n fullShare f) := by
      unfold sigSt; rw [if_pos hn, if_neg (Nat.lt_irrefl _)]
    have e2 : sigSt (F := F) c (n.val + 1) n = iprop(emp) := by
      unfold sigSt; rw [if_pos hn, if_pos (Nat.lt_succ_self _)]
    rw [e1, e2] at fs
    unfold sigAll owesSome
    simp only [semSignalWord, Prog.bind_op, Prog.bind_ret]
    iintro ⟨#HR, Hs, ⟨%W, HO⟩⟩ Hk
    ihave Hs := fs $$ Hs
    icases Hs with ⟨⟨Htok, Hrow⟩, Hs⟩
    iapply (Rounds.wp_signal 𝒱₀ ER (Rd m ρ) (c : Thread nD τ) none (dst := (n : Thread nD τ)) (κ := K (iBar n))
      (d := c) (by rw [duties_bar]; exact Finset.mem_filter.mpr ⟨Finset.mem_univ _, hn⟩) (show (1 : ℕ) = (1#32).toNat by decide) ()
      (O₀ := sendO c 1 + sigO c n.val) (sendO c 1 + sigO c (n.val + 1)) (by rw [sigO_step hn, add_assoc]; rfl)) $$ [HO Htok Hrow]
    · isplitr; · iapply (records_inv m ρ K (iBar n)); iexact HR
      isplitl [HO]; · iexact HO
      isplitl [Htok]; · iexact Htok
      isplitl [Hrow]; · rw [payload_bar]; unfold barPay; iexact Hrow
      iapply (records_reached m ρ K (iBar n)); iexact HR
    iintro HO
    iapply Hk
    isplitl [Hs]
    · iapply Hs; iempintro
    · iexists W; iexact HO
  · rw [dif_neg h, sig_skip (fun h' => h (hC.mpr h'))]
    iintro ⟨-, Hs⟩ Hk
    iapply Hk; iexact Hs

/-! ## The copies -/

/-- What device `c` holds for the copy to device `k`, the copies to the devices below `n` issued: before, the duties' tokens,
    the destination row and a share of its own row; after, the credit of its send semaphore. For a device that is not
    higher: the share. -/
def sendSt (c : Dev nD) (n : ℕ) (k : Dev nD) : sProp 𝕄 :=
  if c < k then
    (if k.val < n then iprop(cred (tallyAt (sendCell c k) () N))
      else iprop(dutyTok ER (sendCell c k) 0 0 ∗ dutyTok ER (recvCell k c) 0 0 ∗ (∃ f, rowPts k c fullShare f) ∗ sendPay m ρ c k))
  else sendPay m ρ c k

def sendAll (c : Dev nD) (n : ℕ) : sProp 𝕄 := iprop(bigSep Finset.univ (sendSt m ρ c n) ∗ owesSome c (sendO c n))

theorem send_skip {c n : Dev nD} (h : ¬ c < n) : sendAll (F := F) m ρ c n.val = sendAll m ρ c (n.val + 1) := by
  unfold sendAll
  rw [sendO_skip h, bigSep_congr (Φ := sendSt (F := F) m ρ c n.val) (Ψ := sendSt m ρ c (n.val + 1)) fun j _ => ?_]
  unfold sendSt
  by_cases hj : j = n
  · subst hj; rw [if_neg h, if_neg h]
  · simp only [ne_lt hj]

/-- One copy, to a higher device `n`. -/
theorem send_core (K : Dev nD × CI → ℕ) (c n : Dev nD) (hn : c < n) (d : Dev nD) (hd : d = n)
    (T : Memref sig .tc .vmem S1x512 .f32) (hT : T = rowM c) (sS sR : DmaSem sig) (hS : sS = sendS n) (hR : sR = recvS c)
    {hsc : (T : Memref sig (Dev.tc d : Thread nD τ).2.kind .vmem S1x512 .f32).view.ref.isScScratch = false}
    {hsrc : T.view.WordExact} {hdst : T.view.WordExact}
    {hsem : DmaTarget.Typed .vmem (.dma sR) (.remote (Dev.tc d : Thread nD τ) T (.dma sS) hsc)}
    {α : Type} {Q : α → sProp 𝕄} {k : PUnit → Prog (TpuEff nD τ sig (Elt F) Λ₀ .tc) α} (W : Waits sig Unit)
    (fd : Buf (Elt F) ((n : Thread nD τ).loc cc0_scratch0)) :
    iprop(cellInv ER (Rd m ρ) (K (iSend c n)) (sendCell c n) ∗ cellInv ER (Rd m ρ) (K (iRecv n c)) (recvCell n c)
        ∗ sendPay m ρ c n ∗ rowPts n c fullShare fd ∗ owes (c : Thread nD τ) (sendO c n.val) W
        ∗ dutyTok ER (sendCell c n) 0 0 ∗ reached ER (sendCell c n) 0
        ∗ dutyTok ER (recvCell n c) 0 0 ∗ reached ER (recvCell n c) 0)
      ⊢ iprop(((cred (tallyAt (sendCell c n) () N) ∗ owes (c : Thread nD τ) (sendO c (n.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma T (.remote (Dev.tc d : Thread nD τ) T (.dma sS) hsc) (.dma sR) hsrc hdst hsem) k) Q) := by
  subst hd hT hS hR
  unfold sendPay rowPts
  exact Rounds.wp_send_pointsTo 𝒱₀ ER (Rd m ρ) (c : Thread nD τ) none (c' := (d : Thread nD τ)) (src := rowM c) (dst := rowM c) (sS := .dma (sendS d)) (sem := .dma (recvS c)) (q := shareTok fullShare 8 d) (fs := totBuf m ρ)
    (κ₁ := K (iSend c d)) (κ₂ := K (iRecv d c)) (r₁ := 0) (r₂ := 0) (d₁ := 0) (d₂ := 0) (fd := fd)
    (by rw [duties_send m ρ hn]; exact Finset.mem_singleton_self _) (by rw [duties_recv m ρ hn]; exact Finset.mem_singleton_self _)
    () () N (N_eq c) (amount_send m ρ c d 0) (amount_recv m ρ d c 0) (sendO c (d.val + 1)) (sendO_step hn) (W := W)
    (by rw [payload_send]; exact BI.Entails.refl _)
    (by rw [payload_recv]; exact Entails.of_eq (pts_copy d c fullShare fd (totBuf m ρ) _ rfl))

/-- The copy to device `n`, issued if it is higher. -/
theorem send_step (K : Dev nD × CI → ℕ) (c n : Dev nD) {C : Prop} [Decidable C] (hC : C ↔ c < n) {d : C → Dev nD} (hd : ∀ h, d h = n)
    {T : C → Memref sig .tc .vmem S1x512 .f32} (hT : ∀ h, T h = rowM c) {sS sR : C → DmaSem sig} (hS : ∀ h, sS h = sendS n) (hR : ∀ h, sR h = recvS c)
    {hsc : ∀ h, ((T h) : Memref sig (Dev.tc (d h) : Thread nD τ).2.kind .vmem S1x512 .f32).view.ref.isScScratch = false}
    {hsrc : ∀ h, (T h).view.WordExact} {hdst : ∀ h, (T h).view.WordExact}
    {hsem : ∀ h, DmaTarget.Typed .vmem (.dma (sR h)) (.remote (Dev.tc (d h) : Thread nD τ) (T h) (.dma (sS h)) (hsc h))}
    {α : Type} {Q : α → sProp 𝕄} {k : Prog (TpuEff nD τ sig (Elt F) Λ₀ .tc) α} :
    iprop(records m ρ K ∗ sendAll m ρ c n.val)
      ⊢ iprop((sendAll m ρ c (n.val + 1) -∗ wp frame (wpE (defs₀ (F := F)) 𝒱₀ (c : Thread nD τ) none) Set.univ k Q)
          -∗ wp frame (wpE (defs₀ (F := F)) 𝒱₀ (c : Thread nD τ) none) Set.univ
              (if h : C then ((Prog.lift (.enqueueDma (T h) (.remote (Dev.tc (d h) : Thread nD τ) (T h) (.dma (sS h)) (hsc h)) (.dma (sR h)) (hsrc h) (hdst h) (hsem h))
                : Prog (TpuEff nD τ sig (Elt F) Λ₀ .tc) PUnit) >>= fun _ => k) else k) Q) := by
  by_cases h : C
  · rw [dif_pos h]
    have hn := hC.mp h
    have fs := family_step (Φ := sendSt (F := F) m ρ c n.val) (Ψ := sendSt m ρ c (n.val + 1)) n fun j hj => by unfold sendSt; simp only [ne_lt hj]
    have e1 : sendSt (F := F) m ρ c n.val n = iprop(dutyTok ER (sendCell c n) 0 0 ∗ dutyTok ER (recvCell n c) 0 0 ∗ (∃ f, rowPts n c fullShare f) ∗ sendPay m ρ c n) := by
      unfold sendSt; rw [if_pos hn, if_neg (Nat.lt_irrefl _)]
    have e2 : sendSt (F := F) m ρ c (n.val + 1) n = iprop(cred (tallyAt (sendCell c n) () N)) := by
      unfold sendSt; rw [if_pos hn, if_pos (Nat.lt_succ_self _)]
    rw [e1, e2] at fs
    unfold sendAll owesSome
    simp only [Prog.lift, Prog.bind_op, Prog.bind_ret]
    iintro ⟨#HR, Hs, ⟨%W, HO⟩⟩ Hk
    ihave Hs := fs $$ Hs
    icases Hs with ⟨⟨Ht1, Ht2, ⟨%fd, Hrow⟩, Hsrc⟩, Hs⟩
    iapply (send_core m ρ K c n hn (d h) (hd h) (T h) (hT h) (sS h) (sR h) (hS h) (hR h) W fd) $$ [Ht1 Ht2 Hrow Hsrc HO]
    · isplitr; · iapply (records_inv m ρ K (iSend c n)); iexact HR
      isplitr; · iapply (records_inv m ρ K (iRecv n c)); iexact HR
      isplitl [Hsrc]; · iexact Hsrc
      isplitl [Hrow]; · iexact Hrow
      isplitl [HO]; · iexact HO
      isplitl [Ht1]; · iexact Ht1
      isplitr; · iapply (records_reached m ρ K (iSend c n)); iexact HR
      isplitl [Ht2]; · iexact Ht2
      iapply (records_reached m ρ K (iRecv n c)); iexact HR
    iintro ⟨Hc, HO⟩
    iapply Hk
    isplitl [Hs Hc]
    · iapply Hs; iexact Hc
    · iexists W; iexact HO
  · rw [dif_neg h, send_skip m ρ (fun h' => h (hC.mpr h'))]
    iintro ⟨-, Hs⟩ Hk
    iapply Hk; iexact Hs

end Cert.Cumprod
-- ==== Proof.Waits.lean ====
/-
The waits of the kernel, for every device they may name: for a lower device's copy and the load of the row it filled,
and for an own copy to have left.
-/
module

public import proofs.«01_k».proof.Proof.Steps

@[expose] public section

noncomputable section

namespace Cert.Cumprod

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop pointsTo_toks_split pointsTo_toks_join)
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The copies received -/

/-- What device `c` holds for row `j`, the copies of the devices below `n` waited for: of a lower device, before, its
    position at round 0 of the receive semaphore and the credit; after, the filled row. Its own row, but for the shares lent to
    the copies; the rows of higher devices untouched. -/
def recvSt (c : Dev nD) (n : ℕ) (j : Dev nD) : sProp 𝕄 :=
  if j < c then
    (if j.val < n then iprop(atPos ER (recvCell c j) 1 ∅ 0 ∗ recvPay m ρ c j)
      else iprop(atPos ER (recvCell c j) 0 ∅ 0 ∗ cred (tallyAt (recvCell c j) () N)))
  else iprop(atPos ER (recvCell c j) 0 ∅ 0
    ∗ if j = c then rowPts c c (shareDrop fullShare 8) (totBuf m ρ) else iprop(∃ f, rowPts c j fullShare f))

/-- That for every device `j`, with nothing owed. -/
def recvAll (c : Dev nD) (n : ℕ) : sProp 𝕄 := iprop(bigSep Finset.univ (recvSt m ρ c n) ∗ owesSome c 0)

/-- A wait that the device skips changes nothing. -/
theorem recv_skip {c n : Dev nD} (h : ¬ n < c) : recvAll (F := F) m ρ c n.val = recvAll m ρ c (n.val + 1) := by
  unfold recvAll
  rw [bigSep_congr (Φ := recvSt (F := F) m ρ c n.val) (Ψ := recvSt m ρ c (n.val + 1)) fun j _ => ?_]
  unfold recvSt
  by_cases hj : j = n
  · subst hj; rw [if_neg h, if_neg h]
  · simp only [ne_lt hj]

/-- One wait for the rest of a DMA cell's round, owing nothing. -/
theorem wait_core (K : Dev nD × CI → ℕ) (c : Dev nD) {g : GSem nD τ sig} (κ : ℕ)
    (hI : records (F := F) m ρ K ⊢ cellInv ER (Rd m ρ) κ g) (he : (Rd (F := F) m ρ).expect g 0 = N)
    (sW : DmaSem sig) (hg : g = ((c : Thread nD τ), .dma sW))
    (T : Memref sig .tc .vmem S1x512 .f32) (j : Dev nD) (hT : T = rowM j) {h1 : T.view.WordExact} {h2 : T.view.WordExact}
    {α : Type} {Q : α → sProp 𝕄} {k : PUnit → Prog (TpuEff nD τ sig (Elt F) Λ₀ .tc) α} :
    iprop(records m ρ K ∗ cred (tallyAt g () N) ∗ owesSome c 0 ∗ atPos ER g 0 ∅ 0)
      ⊢ iprop(((owesSome c 0 ∗ atPos ER g 1 ∅ 0
              ∗ bigSep ((Rd (F := F) m ρ).duties g 0 \ ∅) (fun d => (Rd (F := F) m ρ).payload g 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sW T T h1 h2) k) Q) := by
  subst hg hT
  unfold owesSome
  iintro ⟨#HR, Hc, ⟨%W, HO⟩, Hat⟩ Hk
  iapply (Rounds.wp_wait_rest_token 𝒱₀ ER (Rd m ρ) (c : Thread nD τ) none (κ := κ)
      (wpE_waitDma2_eq 𝒱₀ (c : Thread nD τ) none Set.univ) (Set.mem_univ _) () (O := 0) (W := W) (R := 0) (m := 0) (T := ∅)
      (show 0 + (rowM j).view.dmaCredit = _ by rw [Nat.zero_add, he])) $$ [Hc HO Hat]
  · isplitr; · iapply hI; iexact HR
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iexact Hpay

/-- The wait for device `n`'s copy, made if it is lower. -/
theorem recv_step (K : Dev nD × CI → ℕ) (c n : Dev nD) {C : Prop} [Decidable C] (hC : C ↔ n < c)
    {T : C → Memref sig .tc .vmem S1x512 .f32} {j : Dev nD} (hT : ∀ h, T h = rowM j) {sR : C → DmaSem sig} (hR : ∀ h, sR h = recvS n)
    {h1 : ∀ h, (T h).view.WordExact} {h2 : ∀ h, (T h).view.WordExact}
    {α : Type} {Q : α → sProp 𝕄} {k : Prog (TpuEff nD τ sig (Elt F) Λ₀ .tc) α} :
    iprop(records m ρ K ∗ recvAll m ρ c n.val)
      ⊢ iprop((recvAll m ρ c (n.val + 1) -∗ wp frame (wpE (defs₀ (F := F)) 𝒱₀ (c : Thread nD τ) none) Set.univ k Q)
          -∗ wp frame (wpE (defs₀ (F := F)) 𝒱₀ (c : Thread nD τ) none) Set.univ
              (if h : C then ((Prog.lift (.waitDma2 (sR h) (T h) (T h) (h1 h) (h2 h))
                : Prog (TpuEff nD τ sig (Elt F) Λ₀ .tc) PUnit) >>= fun _ => k) else k) Q) := by
  by_cases h : C
  · rw [dif_pos h]
    have hn := hC.mp h
    have fs := family_step (Φ := recvSt (F := F) m ρ c n.val) (Ψ := recvSt m ρ c (n.val + 1)) n fun j hj => by unfold recvSt; simp only [ne_lt hj]
    have e1 : recvSt (F := F) m ρ c n.val n = iprop(atPos ER (recvCell c n) 0 ∅ 0 ∗ cred (tallyAt (recvCell c n) () N)) := by
      unfold recvSt; rw [if_pos hn, if_neg (Nat.lt_irrefl _)]
    have e2 : recvSt (F := F) m ρ c (n.val + 1) n = iprop(atPos ER (recvCell c n) 1 ∅ 0 ∗ recvPay m ρ c n) := by
      unfold recvSt; rw [if_pos hn, if_pos (Nat.lt_succ_self _)]
    rw [e1, e2] at fs
    have R := wait_core (Q := Q) (k := fun _ => k) (h1 := h1 h) (h2 := h2 h) (g := recvCell c n) m ρ K c _ (records_inv m ρ K (c, .inr (.inr n))) (expect_recv m ρ hn) (sR h) (by rw [hR h]) (T h) j (hT h)
    simp only [Prog.lift, Prog.bind_op, Prog.bind_ret]
    unfold recvAll
    iintro ⟨#HR, Hs, HO⟩ Hk
    ihave Hs := fs $$ Hs
    icases Hs with ⟨⟨Hat, Hc⟩, Hs⟩
    iapply R $$ [Hat Hc HO]
    · isplitr; · iexact HR
      isplitl [Hc]; · iexact Hc
      isplitl [HO] <;> iassumption
    iintro ⟨HO, Hat, Hp⟩
    ihave Hp := (Entails.of_eq (rest_recv m ρ hn)) $$ Hp
    iapply Hk
    isplitl [Hs Hat Hp]
    · iapply Hs; isplitl [Hat] <;> iassumption
    · iexact HO
  · rw [dif_neg h, recv_skip m ρ (fun h' => h (hC.mpr h'))]
    iintro ⟨-, Hs⟩ Hk
    iapply Hk; iexact Hs

/-- The load of row `j`, after the wait for it: device `j`'s total if `j` is lower. -/
theorem row_load (c j : Dev nD) {off : Fin 2 → Nat} (ho : off = ![j.val, 0]) {inb}
    {hl : (tM : Memref sig .tc .vmem S8x512 .f32).view.LoadsAt (Rect.unit (s := S8x512) off S1x512.size inb).toLoadRect}
    {α : Type} {Q : α → sProp 𝕄} {k : Vec F S1x512 .f32 → Prog (TpuEff nD τ sig (Elt F) Λ₀ .tc) α} :
    recvAll m ρ c (j.val + 1)
      ⊢ iprop((∀ v, ⌜j < c → v = tot (xstg m ρ j)⌝ -∗ recvAll m ρ c (j.val + 1)
            -∗ wp frame (wpE (defs₀ (F := F)) 𝒱₀ (c : Thread nD τ) none) Set.univ (k v) Q)
          -∗ wp frame (wpE (defs₀ (F := F)) 𝒱₀ (c : Thread nD τ) none) Set.univ
              ((Prog.lift (.load tM (Rect.unit (s := S8x512) off S1x512.size inb).toLoadRect hl) : Prog (TpuEff nD τ sig (Elt F) Λ₀ .tc) _) >>= k) Q) := by
  subst ho
  have fs := family_step (Φ := recvSt (F := F) m ρ c (j.val + 1)) (Ψ := recvSt m ρ c (j.val + 1)) j fun _ _ => rfl
  have hr : recvSt (F := F) m ρ c (j.val + 1) j ⊢ iprop(∃ q f, ⌜j < c → f = totBuf m ρ⌝ ∗ rowPts c j q f ∗ (rowPts c j q f -∗ recvSt m ρ c (j.val + 1) j)) := by
    unfold recvSt recvPay
    by_cases h : j < c
    · rw [if_pos h, if_pos (Nat.lt_succ_self _)]
      iintro ⟨Hat, Hp⟩
      iexists fullShare, (totBuf m ρ)
      isplitr; · (ipureintro; exact fun _ => rfl)
      isplitl [Hp]; · iexact Hp
      iintro Hp; isplitl [Hat] <;> iassumption
    · rw [if_neg h]
      by_cases h' : j = c
      · subst h'
        rw [if_pos rfl]
        iintro ⟨Hat, Hp⟩
        iexists (shareDrop fullShare 8), (totBuf m ρ)
        isplitr; · (ipureintro; exact fun _ => rfl)
        isplitl [Hp]; · iexact Hp
        iintro Hp; isplitl [Hat] <;> iassumption
      · rw [if_neg h']
        iintro ⟨Hat, ⟨%f, Hp⟩⟩
        iexists fullShare, f
        isplitr; · (ipureintro; exact fun h'' => absurd h'' h)
        isplitl [Hp]; · iexact Hp
        iintro Hp; isplitl [Hat]; · iexact Hat
        iexists f; iexact Hp
  simp only [Prog.lift, Prog.bind_op, Prog.bind_ret]
  unfold recvAll
  iintro ⟨Hs, HO⟩ Hk
  ihave Hs := fs $$ Hs
  icases Hs with ⟨Hj, Hs⟩
  ihave Hj := hr $$ Hj
  icases Hj with ⟨%q, %f, %hf, Hp, Hj⟩
  unfold rowPts
  iapply (wp_load_rect 𝒱₀ (c : Thread nD τ) none Set.univ (m := tM) (r := Rect.unit (s := S8x512) ![j.val, 0] S1x512.size inb) (S := rowSet j) (q := q) (f := f)
    (Finset.Subset.refl _)) $$ Hp
  iintro Hp
  iapply Hk
  · ipureintro; intro h; rw [hf h]; exact read_totBuf m ρ j
  · isplitl [Hs Hj Hp]
    · iapply Hs; iapply Hj; iexact Hp
    · iexact HO

/-! ## The own copies' departure -/

/-- What device `c` holds for its copy to device `k`, the departures of the copies below `n` waited for. -/
def outSt (c : Dev nD) (n : ℕ) (k : Dev nD) : sProp 𝕄 :=
  if c < k then
    (if k.val < n then iprop(atPos ER (sendCell c k) 1 ∅ 0 ∗ sendPay m ρ c k)
      else iprop(atPos ER (sendCell c k) 0 ∅ 0 ∗ cred (tallyAt (sendCell c k) () N)))
  else iprop(atPos ER (sendCell c k) 0 ∅ 0 ∗ sendPay m ρ c k)

/-- That for every device `k`, with nothing owed. -/
def outAll (c : Dev nD) (n : ℕ) : sProp 𝕄 := iprop(bigSep Finset.univ (outSt m ρ c n) ∗ owesSome c 0)

/-- A wait that the device skips changes nothing. -/
theorem out_skip {c n : Dev nD} (h : ¬ c < n) : outAll (F := F) m ρ c n.val = outAll m ρ c (n.val + 1) := by
  unfold outAll
  rw [bigSep_congr (Φ := outSt (F := F) m ρ c n.val) (Ψ := outSt m ρ c (n.val + 1)) fun j _ => ?_]
  unfold outSt
  by_cases hj : j = n
  · subst hj; rw [if_neg h, if_neg h]
  · simp only [ne_lt hj]

/-- The wait for the own copy to device `n` to have left, made if it is higher. -/
theorem out_step (K : Dev nD × CI → ℕ) (c n : Dev nD) {C : Prop} [Decidable C] (hC : C ↔ c < n)
    {T : C → Memref sig .tc .vmem S1x512 .f32} {j : Dev nD} (hT : ∀ h, T h = rowM j) {sS : C → DmaSem sig} (hS : ∀ h, sS h = sendS n)
    {h1 : ∀ h, (T h).view.WordExact} {h2 : ∀ h, (T h).view.WordExact}
    {α : Type} {Q : α → sProp 𝕄} {k : Prog (TpuEff nD τ sig (Elt F) Λ₀ .tc) α} :
    iprop(records m ρ K ∗ outAll m ρ c n.val)
      ⊢ iprop((outAll m ρ c (n.val + 1) -∗ wp frame (wpE (defs₀ (F := F)) 𝒱₀ (c : Thread nD τ) none) Set.univ k Q)
          -∗ wp frame (wpE (defs₀ (F := F)) 𝒱₀ (c : Thread nD τ) none) Set.univ
              (if h : C then ((Prog.lift (.waitDma2 (sS h) (T h) (T h) (h1 h) (h2 h))
                : Prog (TpuEff nD τ sig (Elt F) Λ₀ .tc) PUnit) >>= fun _ => k) else k) Q) := by
  by_cases h : C
  · rw [dif_pos h]
    have hn := hC.mp h
    have fs := family_step (Φ := outSt (F := F) m ρ c n.val) (Ψ := outSt m ρ c (n.val + 1)) n fun j hj => by unfold outSt; simp only [ne_lt hj]
    have e1 : outSt (F := F) m ρ c n.val n = iprop(atPos ER (sendCell c n) 0 ∅ 0 ∗ cred (tallyAt (sendCell c n) () N)) := by
      unfold outSt; rw [if_pos hn, if_neg (Nat.lt_irrefl _)]
    have e2 : outSt (F := F) m ρ c (n.val + 1) n = iprop(atPos ER (sendCell c n) 1 ∅ 0 ∗ sendPay m ρ c n) := by
      unfold outSt; rw [if_pos hn, if_pos (Nat.lt_succ_self _)]
    rw [e1, e2] at fs
    have R := wait_core (Q := Q) (k := fun _ => k) (h1 := h1 h) (h2 := h2 h) (g := sendCell c n) m ρ K c _ (records_inv m ρ K (c, .inr (.inl n))) (expect_send m ρ hn) (sS h) (by rw [hS h]) (T h) j (hT h)
    simp only [Prog.lift, Prog.bind_op, Prog.bind_ret]
    unfold outAll
    iintro ⟨#HR, Hs, HO⟩ Hk
    ihave Hs := fs $$ Hs
    icases Hs with ⟨⟨Hat, Hc⟩, Hs⟩
    iapply R $$ [Hat Hc HO]
    · isplitr; · iexact HR
      isplitl [Hc]; · iexact Hc
      isplitl [HO] <;> iassumption
    iintro ⟨HO, Hat, Hp⟩
    ihave Hp := (Entails.of_eq (rest_send m ρ hn)) $$ Hp
    iapply Hk
    isplitl [Hs Hat Hp]
    · iapply Hs; isplitl [Hat] <;> iassumption
    · iexact HO
  · rw [dif_neg h, out_skip m ρ (fun h' => h (hC.mpr h'))]
    iintro ⟨-, Hs⟩ Hk
    iapply Hk; iexact Hs

end Cert.Cumprod
-- ==== Proof.Stores.lean ====
/-
The kernel's steps on its own memory: the store of the own total with the barrier after it, and the stores of the
output's chunks.
-/
module

public import proofs.«01_k».proof.Proof.Waits

@[expose] public section

noncomputable section

namespace Cert.Cumprod

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop pointsTo_toks_split pointsTo_toks_join)
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The own total stored, and the barrier passed -/

/-- The tokens device `c` copies with. -/
def sendToks (c : Dev nD) (k : Dev nD) : sProp 𝕄 :=
  if c < k then iprop(dutyTok ER (sendCell c k) 0 0 ∗ dutyTok ER (recvCell k c) 0 0) else iprop(emp)

/-- The barrier is waited for by as many units as there are higher devices. -/
theorem amt_toInt (c : Dev nD) : (k0_amt1 c).toInt = ((7 - c.val : ℕ) : ℤ) := by revert c; decide

/-- The row's load, the store of the own total over it, and the wait at the barrier: the own row is filled and lent out in
    shares, and each higher device's row is here. -/
theorem bar_step (K : Dev nD × CI → ℕ) (c : Dev nD) {off : Fin 2 → Nat} (ho : off = ![c.val, 0]) {inb} {inb'}
    {hl : (tM : Memref sig .tc .vmem S8x512 .f32).view.LoadsAt (Rect.unit (s := S8x512) off S1x512.size inb).toLoadRect}
    {w : FVec F S1x512 .f32} (hw : w = tot (xstg m ρ c))
    {hx : ((tM : Memref sig .tc .vmem S8x512 .f32).access (Rect.unit (s := S8x512) off S1x512.size inb')).Stores Finset.univ} {hm}
    {α : Type} {Q : α → sProp 𝕄} {k : Prog (TpuEff nD τ sig (Elt F) Λ₀ .tc) α} :
    iprop(records m ρ K ∗ (∃ f, rowPts c c fullShare f) ∗ atPos ER (barCell c) 0 ∅ 0 ∗ cred (tallyAt (barCell c) () (7 - c.val))
        ∗ bigSep Finset.univ (sendToks c) ∗ sigAll c 7)
      ⊢ iprop(((atPos ER (barCell c) 1 ∅ 0 ∗ rowPts c c (shareDrop fullShare 8) (totBuf m ρ) ∗ sendAll m ρ c 1)
            -∗ wp frame (wpE (defs₀ (F := F)) 𝒱₀ (c : Thread nD τ) none) Set.univ k Q)
          -∗ wp frame (wpE (defs₀ (F := F)) 𝒱₀ (c : Thread nD τ) none) Set.univ
              ((Prog.lift (.load tM (Rect.unit (s := S8x512) off S1x512.size inb).toLoadRect hl) : Prog (TpuEff nD τ sig (Elt F) Λ₀ .tc) _)
                >>= fun _ => (Prog.lift (.store tM (Rect.unit (s := S8x512) off S1x512.size inb') w Finset.univ hx hm) : Prog (TpuEff nD τ sig (Elt F) Λ₀ .tc) _)
                >>= fun _ => (semWaitWord barS (k0_amt1 c) : Prog (TpuEff nD τ sig (Elt F) Λ₀ .tc) _) >>= fun _ => k) Q) := by
  subst ho hw
  have e : ∀ f : Buf (Elt F) ((c : Thread nD τ).loc cc0_scratch0),
      rowPts c c fullShare ((tM.access (Rect.unit (s := S8x512) ![c.val, 0] S1x512.size inb')).write (Elt F) f (tot (xstg m ρ c)) Finset.univ)
        = rowPts c c fullShare (totBuf m ρ) := fun f => pts_copy c c fullShare f (totBuf m ρ) _ (read_totBuf m ρ c).symm
  have hI := records_inv (F := F) m ρ K (iBar c)
  have hL := (records_lev (F := F) m ρ K).trans (mayWait_bar c)
  have e' : ∀ f : Buf (Elt F) ((c : Thread nD τ).loc cc0_scratch0),
      ((tM.access (Rect.unit (s := S8x512) ![c.val, 0] S1x512.size inb')).loc (c : Thread nD τ) ↦[rowSet c]{fullShare}
        (tM.access (Rect.unit (s := S8x512) ![c.val, 0] S1x512.size inb')).write (Elt F) f (tot (xstg m ρ c)) Finset.univ : sProp 𝕄)
        ⊢ rowPts c c fullShare (totBuf m ρ) := fun f => Entails.of_eq (e f)
  have hsp : rowPts c c fullShare (totBuf (F := F) m ρ)
      ⊢ iprop(rowPts c c (shareDrop fullShare 8) (totBuf m ρ) ∗ bigSep Finset.univ fun k : Dev nD => sendPay m ρ c k) := pointsTo_toks_split fullShare 8
  have hk : ∀ k : Dev nD, (iprop((if c < k then barPay c k else iprop(emp)) ∗ sendToks c k ∗ sendPay (F := F) m ρ c k) : sProp 𝕄)
      ⊢ sendSt m ρ c 1 k := by
    intro k
    unfold sendSt sendToks
    by_cases h : c < k
    · have h1 : ¬ k.val < 1 := by have : c.val < k.val := h; omega
      rw [if_pos h, if_pos h, if_pos h, if_neg h1]
      unfold barPay
      iintro ⟨Hr, ⟨H1, H2⟩, Hp⟩
      isplitl [H1]; · iexact H1
      isplitl [H2]; · iexact H2
      isplitl [Hr] <;> iassumption
    · rw [if_neg h, if_neg h, if_neg h]
      iintro ⟨-, -, Hp⟩; iexact Hp
  have hmono : (iprop((bigSep Finset.univ fun k : Dev nD => if c < k then barPay c k else iprop(emp)) ∗ bigSep Finset.univ (sendToks c)
      ∗ bigSep Finset.univ (fun k : Dev nD => sendPay (F := F) m ρ c k)) : sProp 𝕄) ⊢ bigSep Finset.univ (sendSt m ρ c 1) := by
    rw [← bigSep_sep', ← bigSep_sep']
    exact bigSep_mono fun k _ => hk k
  unfold semWaitWord
  rw [amt_toInt]
  simp only [Prog.lift, Prog.bind_op, Prog.bind_ret]
  unfold sigAll owesSome
  rw [sigO_done, add_zero]
  iintro ⟨#HR, ⟨%f, Hrow⟩, Hat, Hc, Htok, -, ⟨%W, HO⟩⟩ Hk
  ihave Hrow' := (show rowPts c c fullShare f ⊢ _ by unfold rowPts; exact BI.Entails.refl _) $$ Hrow
  iapply (wp_load_rect 𝒱₀ (c : Thread nD τ) none Set.univ (m := tM) (r := Rect.unit (s := S8x512) ![c.val, 0] S1x512.size inb) (S := rowSet c) (q := fullShare) (f := f)
    (Finset.Subset.refl _)) $$ Hrow'
  iintro Hrow
  iapply (wp_store 𝒱₀ (c : Thread nD τ) none Set.univ (m := tM) (r := Rect.unit (s := S8x512) ![c.val, 0] S1x512.size inb') (S := rowSet c) (f := f)
    (View.setOn_subset_set _ _)) $$ Hrow
  iintro Hrow
  iapply (Rounds.wp_wait_rest_token 𝒱₀ ER (Rd m ρ) (c : Thread nD τ) none (κ := K (iBar c)) (sm := .reg barS)
      (wpE_semWait_eq 𝒱₀ (c : Thread nD τ) none Set.univ) (Set.mem_univ _) () (O := sendO c 1) (W := W) (R := 0) (m := 0) (T := ∅)
      (show 0 + (7 - c.val) = _ by rw [Nat.zero_add, expect_bar])) $$ [Hc HO Hat]
  · isplitr; · iapply hI; iexact HR
    isplitl [Hc]; · iexact Hc
    isplitl [HO]; · iexact HO
    isplitr; · iapply hL; iexact HR
    iexact Hat
  iintro ⟨HO, Hat, -, Hpay⟩
  ihave Hpay := (Entails.of_eq (rest_bar (F := F) m ρ c)) $$ Hpay
  ihave Hrow := (e' f) $$ Hrow
  ihave Hrow := hsp $$ Hrow
  icases Hrow with ⟨Hd, Ht⟩
  iapply Hk
  isplitl [Hat]; · iexact Hat
  isplitl [Hd]; · iexact Hd
  unfold sendAll owesSome
  isplitl [Hpay Htok Ht]
  · iapply hmono
    isplitl [Hpay]; · iexact Hpay
    isplitl [Htok]; · iexact Htok
    iexact Ht
  · iexists _; iexact HO

/-! ## The output, chunk by chunk -/

/-- The output whose chunk `g` of 32 rows is `P g`. -/
def rowsOf (P : ℕ → FVec F S32x512 .bf16) : (cc0_stg1_0 : Ref sig .tc).ty.Contents (Elt F) :=
  fun i => P ((i 0).val / 32) (ix2 (n0 := S32x512.size 0) (n1 := S32x512.size 1) ⟨(i 0).val % 32, Nat.mod_lt _ (by decide)⟩ ⟨(i 1).val, (i 1).isLt⟩)

/-- The output buffer, its chunks below `n` in place. -/
def outTo (c : Dev nD) (P : ℕ → FVec F S32x512 .bf16) (n : ℕ) : sProp 𝕄 :=
  iprop(∃ f : Buf (Elt F) ((c : Thread nD τ).loc cc0_stg1_0), ⌜∀ i, (i 0).val < 32 * n → f i = rowsOf P i⌝ ∗ ((c : Thread nD τ).loc cc0_stg1_0 ↦{fullShare} f))

/-- The load that comes before a store of a chunk: what it reads is not used. -/
theorem out_load (c : Dev nD) (P : ℕ → FVec F S32x512 .bf16) (n : ℕ) {off : Fin 2 → Nat} {inb}
    {hl : (oM : Memref sig .tc .vmem S1024x512 .bf16).view.LoadsAt (Rect.unit (s := S1024x512) off S32x512.size inb).toLoadRect}
    {α : Type} {Q : α → sProp 𝕄} {k : Prog (TpuEff nD τ sig (Elt F) Λ₀ .tc) α} :
    outTo c P n
      ⊢ iprop((outTo c P n -∗ wp frame (wpE (defs₀ (F := F)) 𝒱₀ (c : Thread nD τ) none) Set.univ k Q)
          -∗ wp frame (wpE (defs₀ (F := F)) 𝒱₀ (c : Thread nD τ) none) Set.univ
              ((Prog.lift (.load oM (Rect.unit (s := S1024x512) off S32x512.size inb).toLoadRect hl) : Prog (TpuEff nD τ sig (Elt F) Λ₀ .tc) _) >>= fun _ => k) Q) := by
  simp only [Prog.lift, Prog.bind_op, Prog.bind_ret]
  unfold outTo
  iintro ⟨%f, %hf, Ho⟩ Hk
  iapply (wp_load_rect 𝒱₀ (c : Thread nD τ) none Set.univ (m := oM) (r := Rect.unit (s := S1024x512) off S32x512.size inb) (S := Finset.univ) (q := fullShare) (f := f)
    (Finset.subset_univ _)) $$ Ho
  iintro Ho
  iapply Hk
  iexists f
  isplitr; · (ipureintro; exact hf)
  iexact Ho

/-- The store of chunk `n`. -/
theorem out_store (c : Dev nD) (P : ℕ → FVec F S32x512 .bf16) (n : ℕ) {o : ℕ} (ho : o = 32 * n) {inb} {w : FVec F S32x512 .bf16} (hw : w = P n)
    {hx : ((oM : Memref sig .tc .vmem S1024x512 .bf16).access (Rect.unit (s := S1024x512) ![o, 0] S32x512.size inb)).Stores Finset.univ} {hm}
    {α : Type} {Q : α → sProp 𝕄} {k : Prog (TpuEff nD τ sig (Elt F) Λ₀ .tc) α} :
    outTo c P n
      ⊢ iprop((outTo c P (n + 1) -∗ wp frame (wpE (defs₀ (F := F)) 𝒱₀ (c : Thread nD τ) none) Set.univ k Q)
          -∗ wp frame (wpE (defs₀ (F := F)) 𝒱₀ (c : Thread nD τ) none) Set.univ
              ((Prog.lift (.store oM (Rect.unit (s := S1024x512) ![o, 0] S32x512.size inb) w Finset.univ hx hm) : Prog (TpuEff nD τ sig (Elt F) Λ₀ .tc) _) >>= fun _ => k) Q) := by
  subst ho hw
  have hf' : ∀ f : Buf (Elt F) ((c : Thread nD τ).loc cc0_stg1_0), (∀ i, (i 0).val < 32 * n → f i = rowsOf P i) →
      ∀ i, (i 0).val < 32 * (n + 1) →
        ((oM : Memref sig .tc .vmem S1024x512 .bf16).access (Rect.unit (s := S1024x512) ![32 * n, 0] S32x512.size inb)).write (Elt F) f (P n) Finset.univ i = rowsOf P i := by
    intro f hf i hi
    by_cases hlt : (i 0).val < 32 * n
    · rw [View.write_of_not_mem]
      · exact hf i hlt
      · rw [View.setOn_univ]
        intro hmem
        obtain ⟨x, rfl⟩ := View.exists_emb_of_mem_set _ hmem
        have h0 := ValueKit.view_emb_slice_whole_unit_val cc0_stg1_0 ![32 * n, 0] S32x512.size inb x 0
        have h0' : (((oM : Memref sig .tc .vmem S1024x512 .bf16).access (Rect.unit (s := S1024x512) ![32 * n, 0] S32x512.size inb)).emb x 0).val = 32 * n + (x 0).val := h0
        omega
    · have hi1 : (i 1).val < 512 := (i 1).isLt
      let x : S32x512.Idx := ix2 (n0 := S32x512.size 0) (n1 := S32x512.size 1) ⟨(i 0).val % 32, Nat.mod_lt _ (by decide)⟩ ⟨(i 1).val, hi1⟩
      have hx : ((oM : Memref sig .tc .vmem S1024x512 .bf16).access (Rect.unit (s := S1024x512) ![32 * n, 0] S32x512.size inb)).emb x = i := by
        funext a
        apply Fin.ext
        refine (ValueKit.view_emb_slice_whole_unit_val cc0_stg1_0 ![32 * n, 0] S32x512.size inb x a).trans ?_
        match a with
        | ⟨0, h⟩ =>
          have e0 : (x ⟨0, h⟩).val = (i 0).val % 32 := rfl
          have e1 : (i ⟨0, h⟩).val = (i 0).val := rfl
          have e2 : (![32 * n, 0] : Fin 2 → ℕ) ⟨0, h⟩ = 32 * n := rfl
          rw [e0, e1, e2]; omega
        | ⟨1, h⟩ =>
          have e0 : (x ⟨1, h⟩).val = (i 1).val := rfl
          have e1 : (i ⟨1, h⟩).val = (i 1).val := rfl
          have e2 : (![32 * n, 0] : Fin 2 → ℕ) ⟨1, h⟩ = 0 := rfl
          rw [e0, e1, e2]; omega
      have hd : (i 0).val / 32 = n := by omega
      calc _ = ((oM : Memref sig .tc .vmem S1024x512 .bf16).access (Rect.unit (s := S1024x512) ![32 * n, 0] S32x512.size inb)).write (Elt F) f (P n) Finset.univ
            (((oM : Memref sig .tc .vmem S1024x512 .bf16).access (Rect.unit (s := S1024x512) ![32 * n, 0] S32x512.size inb)).emb x) := by rw [hx]
        _ = P n x := by rw [View.write_emb_of_mem _ _ (Finset.mem_univ x)]; exact cast_eq _ _
        _ = rowsOf P i := by unfold rowsOf; rw [hd]
  simp only [Prog.lift, Prog.bind_op, Prog.bind_ret]
  unfold outTo
  iintro ⟨%f, %hf, Ho⟩ Hk
  iapply (wp_store 𝒱₀ (c : Thread nD τ) none Set.univ (m := oM) (r := Rect.unit (s := S1024x512) ![32 * n, 0] S32x512.size inb) (S := Finset.univ) (f := f)
    (Finset.subset_univ _)) $$ Ho
  iintro Ho
  iapply Hk
  iexists _
  isplitr; · (ipureintro; exact hf' f hf)
  iexact Ho

end Cert.Cumprod
-- ==== Proof.Values.lean ====
/-
What the kernel computes, as functions of the blocks: a chunk's prefix products, the product of what precedes each
chunk, and the result chunk by chunk.
-/
module

public import proofs.«01_k».proof.Proof.Protocol

@[expose] public section

noncomputable section

namespace Cert.Cumprod

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop pointsTo_toks_split pointsTo_toks_join)
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The values, chunk by chunk

Device `c` holds `x` (1024 rows). Its chunk `g` is rows `32 g .. 32 g + 31`, prefix-multiplied within itself; the last rows of
the chunks, prefix-multiplied, give what the chunks below a chunk multiply to; the totals of the lower devices multiply to
what stands before the device's block. Row `g` of `exclV` is the product of everything before chunk `g`. -/

abbrev one : F .f32 := Scalar.ofBits .f32 0x3F800000#32

/-- Each row multiplied by the row 1 (2, 4, 8, 16) above it, if there is one. -/
def step1 (v : FVec F S32x512 .f32) : FVec F S32x512 .f32 :=
  mulf v (concatenate S32x512 0 [⟨S1x512, broadcast S1x512 one⟩, ⟨S31x512, extractStridedSlice S31x512 ![0, 0] v slices_S32x512_o0_0_S31x512⟩] concatenates_S1x512_S31x512_S32x512_d0)
def step2 (v : FVec F S32x512 .f32) : FVec F S32x512 .f32 :=
  mulf v (concatenate S32x512 0 [⟨S2x512, broadcast S2x512 one⟩, ⟨S30x512, extractStridedSlice S30x512 ![0, 0] v slices_S32x512_o0_0_S30x512⟩] concatenates_S2x512_S30x512_S32x512_d0)
def step4 (v : FVec F S32x512 .f32) : FVec F S32x512 .f32 :=
  mulf v (concatenate S32x512 0 [⟨S4x512, broadcast S4x512 one⟩, ⟨S28x512, extractStridedSlice S28x512 ![0, 0] v slices_S32x512_o0_0_S28x512⟩] concatenates_S4x512_S28x512_S32x512_d0)
def step8 (v : FVec F S32x512 .f32) : FVec F S32x512 .f32 :=
  mulf v (concatenate S32x512 0 [⟨S8x512, broadcast S8x512 one⟩, ⟨S24x512, extractStridedSlice S24x512 ![0, 0] v slices_S32x512_o0_0_S24x512⟩] concatenates_S8x512_S24x512_S32x512_d0)
def step16 (v : FVec F S32x512 .f32) : FVec F S32x512 .f32 :=
  mulf v (concatenate S32x512 0 [⟨S16x512, broadcast S16x512 one⟩, ⟨S16x512, extractStridedSlice S16x512 ![0, 0] v slices_S32x512_o0_0_S16x512⟩] concatenates_S16x512_S16x512_S32x512_d0)

/-- The rows' prefix products. -/
def scanV (v : FVec F S32x512 .f32) : FVec F S32x512 .f32 := step16 (step8 (step4 (step2 (step1 v))))

/-- A chunk lies in the block. -/
theorem chunk_slices (g : ℕ) : S1024x512.Slices ![32 * (g % 32), 0] S32x512 := by
  refine ⟨rfl, fun a => ?_⟩
  have := Nat.mod_lt g (show 0 < 32 by decide)
  fin_cases a
  · show 32 * (g % 32) + 32 ≤ 1024; omega
  · show 0 + 512 ≤ 512; omega

/-- A row lies in its chunk. -/
theorem row_slices (g : ℕ) : S32x512.Slices ![g % 32, 0] S1x512 := by
  refine ⟨rfl, fun a => ?_⟩
  have := Nat.mod_lt g (show 0 < 32 by decide)
  fin_cases a
  · show g % 32 + 1 ≤ 32; omega
  · show 0 + 512 ≤ 512; omega

/-- Chunk `g`'s prefix products. -/
def chunkV (x : Vec F S1024x512 .f32) (g : ℕ) : FVec F S32x512 .f32 :=
  scanV (extractStridedSlice S32x512 ![32 * (g % 32), 0] (k0_pay1 x) (chunk_slices g))

/-- 32 single rows make 32 rows. -/
theorem lasts_concatenates {α : Type} (f : Fin 32 → (S1x512.Idx → α)) :
    Shape.Concatenates ((List.ofFn fun n : Fin 32 => (⟨S1x512, f n⟩ : (s : Shape) × (s.Idx → α))).map (·.1)) S32x512 0 := by
  rw [List.map_ofFn]
  exact (by decide : Shape.Concatenates (List.ofFn fun _ : Fin 32 => S1x512) S32x512 0)

/-- The chunks' totals, one per row. -/
def lastsV (x : Vec F S1024x512 .f32) : FVec F S32x512 .f32 :=
  concatenate S32x512 0
    (List.ofFn fun g : Fin 32 => ⟨S1x512, extractStridedSlice S1x512 ![31, 0] (chunkV x g.val) slices_S32x512_o31_0_S1x512⟩)
    (lasts_concatenates _)
/-- They, prefix-multiplied but for the last step; -/
def gpW (x : Vec F S1024x512 .f32) : FVec F S32x512 .f32 := step8 (step4 (step2 (step1 (lastsV x))))
/-- and wholly. -/
def gpV (x : Vec F S1024x512 .f32) : FVec F S32x512 .f32 := scanV (lastsV x)
/-- The last step of the doubling. -/
theorem gpV_eq (x : Vec F S1024x512 .f32) : k0_pay64 (gpW x) = gpV x := rfl

/-- The word the program computes a device's position as. -/
abbrev dw (c : Dev nD) : BitVec 32 := Scalar.remsi (Scalar.divsi (Dev.word c) 1#32) 8#32

/-- From the totals `T` of the devices: the product of those of the devices below `c`, times that of the chunks below. -/
def exclV (c : Dev nD) (T : Dev nD → FVec F S1x512 .f32) (x : Vec F S1024x512 .f32) : FVec F S32x512 .f32 :=
  k0_pay66 (dw c) (gpV x) (k0_pay65 (dw c) (T 0) (T 1) (T 2)) (Scalar.cmpi .sgt (dw c) 3#32) (T 3) (T 4) (T 5) (T 6)

/-- Chunk `g` of device `c`'s result. -/
def outV (c : Dev nD) (T : Dev nD → FVec F S1x512 .f32) (x : Vec F S1024x512 .f32) (g : ℕ) : FVec F S32x512 .bf16 :=
  truncf .bf16 (mulf (chunkV x g) (broadcastTo S32x512 (extractStridedSlice S1x512 ![g % 32, 0] (exclV c T x) (row_slices g)) broadcasts_S1x512_S32x512)) bitsLt_bf16_f32

/-- Device `c`'s result: chunk by chunk. -/
def outP (c : Dev nD) : ℕ → FVec F S32x512 .bf16 := outV c (fun j => tot (xstg m ρ j)) (xstg m ρ c)

/-! ## The conditions -/

/-- The program compares positions as the devices are ordered. -/
theorem gt_iff : ∀ c j : Dev nD, Scalar.cmpi .sgt (dw c) (BitVec.ofNat 32 j.val) = 1#1 ↔ j < c := by decide

/-- The same condition, as the waits test it. -/
theorem wait_iff : ∀ c j : Dev nD, Scalar.cmpi .ne (Scalar.extui (Scalar.cmpi .sgt (dw c) (BitVec.ofNat 32 j.val)) : BitVec 32) 0#32 = 1#1 ↔ j < c := by decide

/-- A row that the selection discards does not matter. -/
theorem sel_congr {c j : Dev nD} {k : BitVec 32} (hk : Scalar.cmpi .sgt (dw c) k = 1#1 ↔ j < c) {v w b : FVec F S1x512 .f32} (h : j < c → v = w) :
    Scalar.select (Scalar.cmpi .sgt (dw c) k) v b = Scalar.select (Scalar.cmpi .sgt (dw c) k) w b := by
  unfold Scalar.select
  by_cases hj : j < c
  · rw [h hj]
  · have : ¬ Scalar.cmpi .sgt (dw c) k = 1 := fun h' => hj (hk.mp h')
    rw [if_neg this, if_neg this]

/-- The same for the product of the first three rows; -/
theorem pay65_congr {c : Dev nD} {T : Dev nD → FVec F S1x512 .f32} {v0 v1 v2 : FVec F S1x512 .f32}
    (h0 : (0 : Dev nD) < c → v0 = T 0) (h1 : (1 : Dev nD) < c → v1 = T 1) (h2 : (2 : Dev nD) < c → v2 = T 2) :
    k0_pay65 (dw c) v0 v1 v2 = k0_pay65 (dw c) (T 0) (T 1) (T 2) := by
  have e0 := fun b => sel_congr (b := b) (c := c) (j := 0) (k := 0#32) (gt_iff c 0) h0
  have e1 := fun b => sel_congr (b := b) (c := c) (j := 1) (k := 1#32) (gt_iff c 1) h1
  have e2 := fun b => sel_congr (b := b) (c := c) (j := 2) (k := 2#32) (gt_iff c 2) h2
  unfold k0_pay65
  simp only [e0, e1, e2]

/-- and for that of all seven. -/
theorem pay66_congr {c : Dev nD} {T : Dev nD → FVec F S1x512 .f32} {v3 v4 v5 v6 : FVec F S1x512 .f32} (g : FVec F S32x512 .f32) (p : FVec F S1x512 .f32)
    (h3 : (3 : Dev nD) < c → v3 = T 3) (h4 : (4 : Dev nD) < c → v4 = T 4) (h5 : (5 : Dev nD) < c → v5 = T 5) (h6 : (6 : Dev nD) < c → v6 = T 6) :
    k0_pay66 (dw c) g p (Scalar.cmpi .sgt (dw c) 3#32) v3 v4 v5 v6 = k0_pay66 (dw c) g p (Scalar.cmpi .sgt (dw c) 3#32) (T 3) (T 4) (T 5) (T 6) := by
  have e3 := fun b => sel_congr (b := b) (c := c) (j := 3) (k := 3#32) (gt_iff c 3) h3
  have e4 := fun b => sel_congr (b := b) (c := c) (j := 4) (k := 4#32) (gt_iff c 4) h4
  have e5 := fun b => sel_congr (b := b) (c := c) (j := 5) (k := 5#32) (gt_iff c 5) h5
  have e6 := fun b => sel_congr (b := b) (c := c) (j := 6) (k := 6#32) (gt_iff c 6) h6
  unfold k0_pay66
  simp only [e3, e4, e5, e6]

end Cert.Cumprod
-- ==== Proof.Parts.lean ====
/-
The kernel's parts that touch memory or communicate, each run once: what a part starts from, what it leaves and what it
returns.
-/
module

public import proofs.«01_k».proof.Proof.Stores
public import proofs.«01_k».proof.Proof.Values

@[expose] public section

noncomputable section

namespace Cert.Cumprod

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop pointsTo_toks_split pointsTo_toks_join)
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Chaining -/

/-- A run of a part of the program, then the rest from what it leaves. -/
theorem bind_step {c : Dev nD} {A : sProp 𝕄} {β α : Type} {p : Prog (TpuEff nD τ sig (Elt F) Λ₀ .tc) β} {R : β → sProp 𝕄}
    (h : A ⊢ wp frame (wpE (defs₀ (F := F)) 𝒱₀ (c : Thread nD τ) none) Set.univ p R)
    {k : β → Prog (TpuEff nD τ sig (Elt F) Λ₀ .tc) α} {Q : α → sProp 𝕄} :
    A ⊢ iprop((∀ a, R a -∗ wp frame (wpE (defs₀ (F := F)) 𝒱₀ (c : Thread nD τ) none) Set.univ (k a) Q)
        -∗ wp frame (wpE (defs₀ (F := F)) 𝒱₀ (c : Thread nD τ) none) Set.univ (p >>= k) Q) := by
  rw [wp_bind]; exact h.trans (wp_wand _ _ _)

/-- A program that has returned. -/
theorem pure_done {c : Dev nD} {α : Type} {a : α} {Q : α → sProp 𝕄} :
    Q a ⊢ wp frame (wpE (defs₀ (F := F)) 𝒱₀ (c : Thread nD τ) none) Set.univ (pure a : Prog (TpuEff nD τ sig (Elt F) Λ₀ .tc) α) Q := by
  rw [Prog.pure_eq_ret, wp_ret]
  iintro H; imodintro; iexact H

/-- Asking for its own position, a device learns it. -/
theorem dev_step {c : Dev nD} {α : Type} {k : Dev nD → Prog (TpuEff nD τ sig (Elt F) Λ₀ .tc) α} {Q : α → sProp 𝕄} :
    wp frame (wpE (defs₀ (F := F)) 𝒱₀ (c : Thread nD τ) none) Set.univ (k c) Q ⊢ wp frame (wpE (defs₀ (F := F)) 𝒱₀ (c : Thread nD τ) none) Set.univ ((Prog.lift .deviceId : Prog (TpuEff nD τ sig (Elt F) Λ₀ .tc) _) >>= k) Q := by
  simp only [Prog.lift, Prog.bind_op, Prog.bind_ret, wp_deviceId]
  exact BI.Entails.refl _

/-- The block device `c` holds, in its staging buffer. -/
def xPts (c : Dev nD) : sProp 𝕄 := iprop((c : Thread nD τ).loc cc0_stg0_0 ↦{fullShare} (xstg m ρ c))

/-- The origin, written out. -/
theorem hz : (![0, 0] : Fin 2 → Nat) = fun _ => 0 := funext fun a => by fin_cases a <;> rfl

/-- The load of the whole block. -/
theorem x_load {c : Dev nD} {inb} {hl : (xM : Memref sig .tc .vmem S1024x512 .f32).view.LoadsAt (Rect.unit (s := S1024x512) ![0, 0] S1024x512.size inb).toLoadRect}
    {α : Type} {k : Vec F S1024x512 .f32 → Prog (TpuEff nD τ sig (Elt F) Λ₀ .tc) α} {Q : α → sProp 𝕄} :
    xPts m ρ c ⊢ iprop((xPts m ρ c -∗ wp frame (wpE (defs₀ (F := F)) 𝒱₀ (c : Thread nD τ) none) Set.univ (k (xstg m ρ c)) Q)
      -∗ wp frame (wpE (defs₀ (F := F)) 𝒱₀ (c : Thread nD τ) none) Set.univ ((Prog.lift (.load xM (Rect.unit (s := S1024x512) ![0, 0] S1024x512.size inb).toLoadRect hl) : Prog (TpuEff nD τ sig (Elt F) Λ₀ .tc) _) >>= k) Q) := by
  have e : (xM : Memref sig .tc .vmem S1024x512 .f32).view.readAt (Elt F) (Rect.unit (s := S1024x512) ![0, 0] S1024x512.size inb).toLoadRect (xstg m ρ c) = xstg m ρ c :=
    Memref.readAt_unit_zero (Elt F) cc0_stg0_0 hz _ _
  simp only [Prog.lift, Prog.bind_op, Prog.bind_ret]
  unfold xPts
  iintro Hx Hk
  iapply (wp_load 𝒱₀ (c : Thread nD τ) none Set.univ (m := xM) (Finset.subset_univ _)) $$ Hx
  iintro Hx
  rw [e]
  iapply Hk; iexact Hx

/-- The program's row `j` of the table is row `j`. -/
theorem row_eq {off : Fin 2 → Nat} {inb} {hs} {j : Dev nD} (ho : off = ![j.val, 0]) :
    (tM : Memref sig .tc .vmem S8x512 .f32).slice (Rect.unit (s := S8x512) off S1x512.size inb) hs = rowM j := by
  subst ho; rfl

/-! ## The parts that communicate -/

/-- Part 1: the signals, and the load of the block. -/
theorem part1_run (K : Dev nD × CI → ℕ) (c : Dev nD) :
    iprop(records m ρ K ∗ sigAll c 0 ∗ xPts m ρ c)
      ⊢ wp frame (wpE (defs₀ (F := F)) 𝒱₀ (c : Thread nD τ) none) Set.univ (k0_part1 xM (Memref.isWhole_whole _) oM (Memref.isWhole_whole _) tM (Memref.isWhole_whole _) cc0_scratch1 cc0_scratch2)
          (fun a => iprop(⌜a = ⟨c, dw c, SemArray.scalar (sig.barrier 0 rfl), k0_pay1 (xstg m ρ c), k0_pay2 (xstg m ρ c), k0_pay3 (xstg m ρ c)⟩⌝
            ∗ sigAll c 7 ∗ xPts m ρ c)) := by
  rw [k0_part1_eq_skeleton]; unfold k0_part1_skel
  iintro ⟨#HR, Hs, Hx⟩
  iapply dev_step
  iapply (sig_step m ρ K c 0 (C := k0_cond1 c = 1#1) (by revert c; decide) (d := fun h => ⟨k0_dev1, k0_dev1_lt c h⟩) (fun h => Fin.ext k0_dev1_eq)) $$ [Hs]
  · isplitr; · iexact HR
    iexact Hs
  iintro Hs
  iapply (sig_step m ρ K c 1 (C := k0_cond2 c = 1#1) (by revert c; decide) (d := fun h => ⟨k0_dev2, k0_dev2_lt c h⟩) (fun h => Fin.ext k0_dev2_eq)) $$ [Hs]
  · isplitr; · iexact HR
    iexact Hs
  iintro Hs
  iapply (sig_step m ρ K c 2 (C := k0_cond3 c = 1#1) (by revert c; decide) (d := fun h => ⟨k0_dev3, k0_dev3_lt c h⟩) (fun h => Fin.ext k0_dev3_eq)) $$ [Hs]
  · isplitr; · iexact HR
    iexact Hs
  iintro Hs
  iapply (sig_step m ρ K c 3 (C := k0_cond4 c = 1#1) (by revert c; decide) (d := fun h => ⟨k0_dev4, k0_dev4_lt c h⟩) (fun h => Fin.ext k0_dev4_eq)) $$ [Hs]
  · isplitr; · iexact HR
    iexact Hs
  iintro Hs
  iapply (sig_step m ρ K c 4 (C := k0_cond5 c = 1#1) (by revert c; decide) (d := fun h => ⟨k0_dev5, k0_dev5_lt c h⟩) (fun h => Fin.ext k0_dev5_eq)) $$ [Hs]
  · isplitr; · iexact HR
    iexact Hs
  iintro Hs
  iapply (sig_step m ρ K c 5 (C := k0_cond6 c = 1#1) (by revert c; decide) (d := fun h => ⟨k0_dev6, k0_dev6_lt c h⟩) (fun h => Fin.ext k0_dev6_eq)) $$ [Hs]
  · isplitr; · iexact HR
    iexact Hs
  iintro Hs
  iapply (sig_step m ρ K c 6 (C := k0_cond7 c = 1#1) (by revert c; decide) (d := fun h => ⟨k0_dev7, k0_dev7_lt c h⟩) (fun h => Fin.ext k0_dev7_eq)) $$ [Hs]
  · isplitr; · iexact HR
    iexact Hs
  iintro Hs
  iapply (x_load m ρ) $$ Hx
  iintro Hx
  iapply pure_done
  isplitr; · (ipureintro; rfl)
  isplitl [Hs]; · iexact Hs
  iexact Hx

/-- Part 2: the own total stored, the barrier, and the first copies. -/
theorem part2_run (K : Dev nD × CI → ℕ) (c : Dev nD) (v2 : BitVec 32) :
    iprop(records m ρ K ∗ (∃ f, rowPts c c fullShare f) ∗ atPos ER (barCell c) 0 ∅ 0 ∗ cred (tallyAt (barCell c) () (7 - c.val))
        ∗ bigSep Finset.univ (sendToks c) ∗ sigAll c 7)
      ⊢ wp frame (wpE (defs₀ (F := F)) 𝒱₀ (c : Thread nD τ) none) Set.univ (k0_part2 xM (Memref.isWhole_whole _) oM (Memref.isWhole_whole _) tM (Memref.isWhole_whole _) cc0_scratch1 cc0_scratch2
            c v2 (SemArray.scalar (sig.barrier 0 rfl)) (k0_pay2 (xstg m ρ c)) (k0_pay3 (xstg m ρ c)))
          (fun _ => iprop(atPos ER (barCell c) 1 ∅ 0 ∗ rowPts c c (shareDrop fullShare 8) (totBuf m ρ) ∗ sendAll m ρ c 5)) := by
  rw [k0_part2_eq_skeleton]; unfold k0_part2_skel
  iintro ⟨#HR, Hrow, Hat, Hc, Ht, Hs⟩
  iapply (bar_step m ρ K c (off := k0_off1 c) (k0_off1_eq c) (w := k0_pay4 (k0_pay2 (xstg m ρ c)) (k0_pay3 (xstg m ρ c))) rfl) $$ [Hrow Hat Hc Ht Hs]
  · isplitr; · iexact HR
    isplitl [Hrow]; · iexact Hrow
    isplitl [Hat]; · iexact Hat
    isplitl [Hc]; · iexact Hc
    isplitl [Ht] <;> iassumption
  iintro ⟨Hat, Hd, Hs⟩
  iapply (send_step m ρ K c 1 (C := k0_cond8 c = 1#1) (by revert c; decide) (d := fun h => ⟨k0_dev8, k0_dev8_lt c h⟩) (fun h => Fin.ext k0_dev8_eq)
    (fun h => row_eq (inb := k0_off3_inb c h) (hs := fun _ => rfl) (k0_off3_eq c)) (fun h => sendS_eq inb_S8_S1_1 1 rfl) (fun h => recvS_eq (k0_off2_inb c h) c (k0_off2_eq c))) $$ [Hs]
  · isplitr; · iexact HR
    iexact Hs
  iintro Hs
  iapply (send_step m ρ K c 2 (C := k0_cond9 c = 1#1) (by revert c; decide) (d := fun h => ⟨k0_dev9, k0_dev9_lt c h⟩) (fun h => Fin.ext k0_dev9_eq)
    (fun h => row_eq (inb := k0_off5_inb c h) (hs := fun _ => rfl) (k0_off5_eq c)) (fun h => sendS_eq inb_S8_S1_2 2 rfl) (fun h => recvS_eq (k0_off4_inb c h) c (k0_off4_eq c))) $$ [Hs]
  · isplitr; · iexact HR
    iexact Hs
  iintro Hs
  iapply (send_step m ρ K c 3 (C := k0_cond10 c = 1#1) (by revert c; decide) (d := fun h => ⟨k0_dev10, k0_dev10_lt c h⟩) (fun h => Fin.ext k0_dev10_eq)
    (fun h => row_eq (inb := k0_off7_inb c h) (hs := fun _ => rfl) (k0_off7_eq c)) (fun h => sendS_eq inb_S8_S1_3 3 rfl) (fun h => recvS_eq (k0_off6_inb c h) c (k0_off6_eq c))) $$ [Hs]
  · isplitr; · iexact HR
    iexact Hs
  iintro Hs
  iapply (send_step m ρ K c 4 (C := k0_cond11 c = 1#1) (by revert c; decide) (d := fun h => ⟨k0_dev11, k0_dev11_lt c h⟩) (fun h => Fin.ext k0_dev11_eq)
    (fun h => row_eq (inb := k0_off9_inb c h) (hs := fun _ => rfl) (k0_off9_eq c)) (fun h => sendS_eq inb_S8_S1_4 4 rfl) (fun h => recvS_eq (k0_off8_inb c h) c (k0_off8_eq c))) $$ [Hs]
  · isplitr; · iexact HR
    iexact Hs
  iintro Hs
  iapply pure_done
  isplitl [Hat]; · iexact Hat
  isplitl [Hd]; · iexact Hd
  iexact Hs

/-- Part 3: the remaining copies, and the first chunks' products. -/
theorem part3_run (K : Dev nD × CI → ℕ) (c : Dev nD) (v2 v75 : BitVec 32) (v26 : FVec F S1024x512 .f32) :
    iprop(records m ρ K ∗ sendAll m ρ c 5)
      ⊢ wp frame (wpE (defs₀ (F := F)) 𝒱₀ (c : Thread nD τ) none) Set.univ (k0_part3 xM (Memref.isWhole_whole _) oM (Memref.isWhole_whole _) tM (Memref.isWhole_whole _) cc0_scratch1 cc0_scratch2 c v2 v26 v75)
          (fun a => iprop(⌜a = ⟨k0_pay5 v26, k0_pay6 v26, k0_pay7, k0_pay8 v26⟩⌝ ∗ sendAll m ρ c 8)) := by
  rw [k0_part3_eq_skeleton]; unfold k0_part3_skel
  iintro ⟨#HR, Hs⟩
  iapply (send_step m ρ K c 5 (C := k0_cond12 c = 1#1) (by revert c; decide) (d := fun h => ⟨k0_dev12, k0_dev12_lt c h⟩) (fun h => Fin.ext k0_dev12_eq)
    (fun h => row_eq (inb := k0_off11_inb c h) (hs := fun _ => rfl) (k0_off11_eq c)) (fun h => sendS_eq inb_S8_S1_5 5 rfl) (fun h => recvS_eq (k0_off10_inb c h) c (k0_off10_eq c))) $$ [Hs]
  · isplitr; · iexact HR
    iexact Hs
  iintro Hs
  iapply (send_step m ρ K c 6 (C := k0_cond13 c = 1#1) (by revert c; decide) (d := fun h => ⟨k0_dev13, k0_dev13_lt c h⟩) (fun h => Fin.ext k0_dev13_eq)
    (fun h => row_eq (inb := k0_off13_inb c h) (hs := fun _ => rfl) (k0_off13_eq c)) (fun h => sendS_eq inb_S8_S1_6 6 rfl) (fun h => recvS_eq (k0_off12_inb c h) c (k0_off12_eq c))) $$ [Hs]
  · isplitr; · iexact HR
    iexact Hs
  iintro Hs
  iapply (send_step m ρ K c 7 (C := k0_cond14 c = 1#1) (by revert c; decide) (d := fun h => ⟨k0_dev14, k0_dev14_lt c h⟩) (fun h => Fin.ext k0_dev14_eq)
    (fun h => row_eq (inb := k0_off15_inb c h) (hs := fun _ => rfl) (k0_off15_eq c)) (fun h => sendS_eq inb_S8_S1_7 7 rfl) (fun h => recvS_eq (k0_off14_inb c h) c (k0_off14_eq c))) $$ [Hs]
  · isplitr; · iexact HR
    iexact Hs
  iintro Hs
  iapply pure_done
  isplitr; · (ipureintro; rfl)
  iexact Hs

/-- Part 18: the lower devices' totals waited for and multiplied up, the first of them. -/
theorem part18_run (K : Dev nD × CI → ℕ) (c : Dev nD) (v803 : FVec F S32x512 .f32) :
    iprop(records m ρ K ∗ recvAll m ρ c 0)
      ⊢ wp frame (wpE (defs₀ (F := F)) 𝒱₀ (c : Thread nD τ) none) Set.univ (k0_part18 xM (Memref.isWhole_whole _) oM (Memref.isWhole_whole _) tM (Memref.isWhole_whole _) cc0_scratch1 cc0_scratch2 (dw c) v803)
          (fun a => iprop(⌜a = ⟨k0_pay64 v803, k0_pay65 (dw c) (tot (xstg m ρ 0)) (tot (xstg m ρ 1)) (tot (xstg m ρ 2)), Scalar.cmpi .sgt (dw c) 3#32⟩⌝
            ∗ recvAll m ρ c 4)) := by
  rw [k0_part18_eq_skeleton]; unfold k0_part18_skel
  iintro ⟨#HR, Hs⟩
  iapply (recv_step m ρ K c 0 (C := Scalar.cmpi .ne (Scalar.extui (Scalar.cmpi .sgt (dw c) 0#32)) 0#32 = 1#1) (wait_iff c 0)
    (T := fun _ => rowM 0) (j := 0) (fun _ => rfl) (sR := fun _ => _) (fun _ => recvS_eq inb_S8_S1_0 0 rfl)) $$ [Hs]
  · isplitr; · iexact HR
    iexact Hs
  iintro Hs
  iapply (row_load m ρ c 0 (off := ![0, 0]) rfl) $$ [Hs]
  · iexact Hs
  iintro %v0 %h0 Hs
  iapply (recv_step m ρ K c 1 (C := Scalar.cmpi .ne (Scalar.extui (Scalar.cmpi .sgt (dw c) 1#32)) 0#32 = 1#1) (wait_iff c 1)
    (T := fun _ => rowM 1) (j := 1) (fun _ => rfl) (sR := fun _ => _) (fun _ => recvS_eq inb_S8_S1_1 1 rfl)) $$ [Hs]
  · isplitr; · iexact HR
    iexact Hs
  iintro Hs
  iapply (row_load m ρ c 1 (off := ![1, 0]) rfl) $$ [Hs]
  · iexact Hs
  iintro %v1 %h1 Hs
  iapply (recv_step m ρ K c 2 (C := Scalar.cmpi .ne (Scalar.extui (Scalar.cmpi .sgt (dw c) 2#32)) 0#32 = 1#1) (wait_iff c 2)
    (T := fun _ => rowM 2) (j := 2) (fun _ => rfl) (sR := fun _ => _) (fun _ => recvS_eq inb_S8_S1_2 2 rfl)) $$ [Hs]
  · isplitr; · iexact HR
    iexact Hs
  iintro Hs
  iapply (row_load m ρ c 2 (off := ![2, 0]) rfl) $$ [Hs]
  · iexact Hs
  iintro %v2 %h2 Hs
  iapply (recv_step m ρ K c 3 (C := Scalar.cmpi .ne (Scalar.extui (Scalar.cmpi .sgt (dw c) 3#32)) 0#32 = 1#1) (wait_iff c 3)
    (T := fun _ => rowM 3) (j := 3) (fun _ => rfl) (sR := fun _ => _) (fun _ => recvS_eq inb_S8_S1_3 3 rfl)) $$ [Hs]
  · isplitr; · iexact HR
    iexact Hs
  iintro Hs
  rw [pay65_congr (T := fun j => tot (xstg m ρ j)) h0 h1 h2]
  iapply pure_done
  isplitr; · (ipureintro; rfl)
  iexact Hs

/-- Part 19: the rest of them, and the product of what precedes each chunk. -/
theorem part19_run (K : Dev nD × CI → ℕ) (c : Dev nD) (v807 : FVec F S32x512 .f32) (v832 : FVec F S1x512 .f32) :
    iprop(records m ρ K ∗ recvAll m ρ c 4)
      ⊢ wp frame (wpE (defs₀ (F := F)) 𝒱₀ (c : Thread nD τ) none) Set.univ (k0_part19 xM (Memref.isWhole_whole _) oM (Memref.isWhole_whole _) tM (Memref.isWhole_whole _) cc0_scratch1 cc0_scratch2 (dw c) v807 v832 (Scalar.cmpi .sgt (dw c) 3#32))
          (fun a => iprop(⌜a = ⟨k0_pay66 (dw c) v807 v832 (Scalar.cmpi .sgt (dw c) 3#32) (tot (xstg m ρ 3)) (tot (xstg m ρ 4)) (tot (xstg m ρ 5)) (tot (xstg m ρ 6)),
              k0_pay67 (dw c) v807 v832 (Scalar.cmpi .sgt (dw c) 3#32) (tot (xstg m ρ 3)) (tot (xstg m ρ 4)) (tot (xstg m ρ 5)) (tot (xstg m ρ 6))⟩⌝
            ∗ recvAll m ρ c 7)) := by
  rw [k0_part19_eq_skeleton]; unfold k0_part19_skel
  iintro ⟨#HR, Hs⟩
  iapply (row_load m ρ c 3 (off := ![3, 0]) rfl) $$ [Hs]
  · iexact Hs
  iintro %v3 %h3 Hs
  iapply (recv_step m ρ K c 4 (C := Scalar.cmpi .ne (Scalar.extui (Scalar.cmpi .sgt (dw c) 4#32)) 0#32 = 1#1) (wait_iff c 4)
    (T := fun _ => rowM 4) (j := 4) (fun _ => rfl) (sR := fun _ => _) (fun _ => recvS_eq inb_S8_S1_4 4 rfl)) $$ [Hs]
  · isplitr; · iexact HR
    iexact Hs
  iintro Hs
  iapply (row_load m ρ c 4 (off := ![4, 0]) rfl) $$ [Hs]
  · iexact Hs
  iintro %v4 %h4 Hs
  iapply (recv_step m ρ K c 5 (C := Scalar.cmpi .ne (Scalar.extui (Scalar.cmpi .sgt (dw c) 5#32)) 0#32 = 1#1) (wait_iff c 5)
    (T := fun _ => rowM 5) (j := 5) (fun _ => rfl) (sR := fun _ => _) (fun _ => recvS_eq inb_S8_S1_5 5 rfl)) $$ [Hs]
  · isplitr; · iexact HR
    iexact Hs
  iintro Hs
  iapply (row_load m ρ c 5 (off := ![5, 0]) rfl) $$ [Hs]
  · iexact Hs
  iintro %v5 %h5 Hs
  iapply (recv_step m ρ K c 6 (C := Scalar.cmpi .ne (Scalar.extui (Scalar.cmpi .sgt (dw c) 6#32)) 0#32 = 1#1) (wait_iff c 6)
    (T := fun _ => rowM 6) (j := 6) (fun _ => rfl) (sR := fun _ => _) (fun _ => recvS_eq inb_S8_S1_6 6 rfl)) $$ [Hs]
  · isplitr; · iexact HR
    iexact Hs
  iintro Hs
  iapply (row_load m ρ c 6 (off := ![6, 0]) rfl) $$ [Hs]
  · iexact Hs
  iintro %v6 %h6 Hs
  have e := pay66_congr (T := fun j => tot (xstg m ρ j)) v807 v832 h3 h4 h5 h6
  unfold k0_pay67
  rw [e]
  iapply pure_done
  isplitr; · (ipureintro; rfl)
  iexact Hs

end Cert.Cumprod
-- ==== Proof.Chunks.lean ====
/-
The parts of the kernel that only compute: what each returns, in terms of the chunks' prefix products. A part may stop in
the middle of a chunk; what it hands on is then named by the printed payload, at the block.
-/
module

public import proofs.«01_k».proof.Proof.Values

@[expose] public section

noncomputable section

namespace Cert.Cumprod

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop pointsTo_toks_split pointsTo_toks_join)
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem part4_eq (x : Vec F S1024x512 .f32) : k0_part4 xM (Memref.isWhole_whole _) oM (Memref.isWhole_whole _) tM (Memref.isWhole_whole _) cc0_scratch1 cc0_scratch2 (k0_pay1 x) (k0_pay6 (k0_pay1 x)) k0_pay7 (k0_pay8 (k0_pay1 x))
    = pure ⟨chunkV x 1, chunkV x 2, chunkV x 3, k0_pay12 (k0_pay1 x)⟩ := rfl
theorem part5_eq (x : Vec F S1024x512 .f32) : k0_part5 xM (Memref.isWhole_whole _) oM (Memref.isWhole_whole _) tM (Memref.isWhole_whole _) cc0_scratch1 cc0_scratch2 (k0_pay1 x) (k0_pay12 (k0_pay1 x))
    = pure ⟨chunkV x 4, chunkV x 5, k0_pay15 (k0_pay1 x), k0_pay16, k0_pay17 (k0_pay1 x)⟩ := rfl
theorem part6_eq (x : Vec F S1024x512 .f32) : k0_part6 xM (Memref.isWhole_whole _) oM (Memref.isWhole_whole _) tM (Memref.isWhole_whole _) cc0_scratch1 cc0_scratch2 (k0_pay1 x) (k0_pay15 (k0_pay1 x)) k0_pay16 (k0_pay17 (k0_pay1 x))
    = pure ⟨chunkV x 6, chunkV x 7, k0_pay20 (k0_pay1 x), one⟩ := rfl
theorem part7_eq (x : Vec F S1024x512 .f32) : k0_part7 xM (Memref.isWhole_whole _) oM (Memref.isWhole_whole _) tM (Memref.isWhole_whole _) cc0_scratch1 cc0_scratch2 (k0_pay1 x) (k0_pay20 (k0_pay1 x)) one
    = pure ⟨chunkV x 8, chunkV x 9, k0_pay23 (k0_pay1 x), k0_pay24 (k0_pay1 x)⟩ := rfl
theorem part8_eq (x : Vec F S1024x512 .f32) : k0_part8 xM (Memref.isWhole_whole _) oM (Memref.isWhole_whole _) tM (Memref.isWhole_whole _) cc0_scratch1 cc0_scratch2 (k0_pay1 x) (k0_pay23 (k0_pay1 x)) (k0_pay24 (k0_pay1 x))
    = pure ⟨chunkV x 10, chunkV x 11, chunkV x 12, k0_pay28 (k0_pay1 x), one⟩ := rfl
theorem part9_eq (x : Vec F S1024x512 .f32) : k0_part9 xM (Memref.isWhole_whole _) oM (Memref.isWhole_whole _) tM (Memref.isWhole_whole _) cc0_scratch1 cc0_scratch2 (k0_pay1 x) (k0_pay28 (k0_pay1 x)) one
    = pure ⟨chunkV x 13, chunkV x 14, k0_pay31 (k0_pay1 x), k0_pay32 (k0_pay1 x)⟩ := rfl
theorem part10_eq (x : Vec F S1024x512 .f32) : k0_part10 xM (Memref.isWhole_whole _) oM (Memref.isWhole_whole _) tM (Memref.isWhole_whole _) cc0_scratch1 cc0_scratch2 (k0_pay1 x) (k0_pay31 (k0_pay1 x)) (k0_pay32 (k0_pay1 x))
    = pure ⟨chunkV x 15, chunkV x 16, k0_pay35 (k0_pay1 x), k0_pay36⟩ := rfl
theorem part11_eq (x : Vec F S1024x512 .f32) : k0_part11 xM (Memref.isWhole_whole _) oM (Memref.isWhole_whole _) tM (Memref.isWhole_whole _) cc0_scratch1 cc0_scratch2 (k0_pay1 x) (k0_pay35 (k0_pay1 x)) k0_pay36
    = pure ⟨chunkV x 17, chunkV x 18, chunkV x 19, k0_pay40 (k0_pay1 x), k0_pay41 (k0_pay1 x)⟩ := rfl
theorem part12_eq (x : Vec F S1024x512 .f32) : k0_part12 xM (Memref.isWhole_whole _) oM (Memref.isWhole_whole _) tM (Memref.isWhole_whole _) cc0_scratch1 cc0_scratch2 (k0_pay1 x) (k0_pay40 (k0_pay1 x)) (k0_pay41 (k0_pay1 x))
    = pure ⟨chunkV x 20, chunkV x 21, k0_pay44 (k0_pay1 x), k0_pay45⟩ := rfl
theorem part13_eq (x : Vec F S1024x512 .f32) : k0_part13 xM (Memref.isWhole_whole _) oM (Memref.isWhole_whole _) tM (Memref.isWhole_whole _) cc0_scratch1 cc0_scratch2 (k0_pay1 x) (k0_pay44 (k0_pay1 x)) k0_pay45
    = pure ⟨chunkV x 22, chunkV x 23, k0_pay48 (k0_pay1 x)⟩ := rfl
theorem part14_eq (x : Vec F S1024x512 .f32) : k0_part14 xM (Memref.isWhole_whole _) oM (Memref.isWhole_whole _) tM (Memref.isWhole_whole _) cc0_scratch1 cc0_scratch2 (k0_pay1 x) (k0_pay48 (k0_pay1 x))
    = pure ⟨chunkV x 24, chunkV x 25, chunkV x 26, k0_pay52 (k0_pay1 x), k0_pay53⟩ := rfl
theorem part15_eq (x : Vec F S1024x512 .f32) : k0_part15 xM (Memref.isWhole_whole _) oM (Memref.isWhole_whole _) tM (Memref.isWhole_whole _) cc0_scratch1 cc0_scratch2 (k0_pay1 x) (k0_pay52 (k0_pay1 x)) k0_pay53
    = pure ⟨chunkV x 27, chunkV x 28, k0_pay56 (k0_pay1 x)⟩ := rfl
theorem part16_eq (x : Vec F S1024x512 .f32) : k0_part16 xM (Memref.isWhole_whole _) oM (Memref.isWhole_whole _) tM (Memref.isWhole_whole _) cc0_scratch1 cc0_scratch2 (k0_pay1 x) (k0_pay56 (k0_pay1 x))
    = pure ⟨chunkV x 29, chunkV x 30, k0_pay59 (k0_pay1 x), k0_pay60, k0_pay61 (k0_pay1 x)⟩ := rfl
theorem part17_eq (x : Vec F S1024x512 .f32) : k0_part17 xM (Memref.isWhole_whole _) oM (Memref.isWhole_whole _) tM (Memref.isWhole_whole _) cc0_scratch1 cc0_scratch2 (chunkV x 0) (chunkV x 1) (chunkV x 2) (chunkV x 3) (chunkV x 4) (chunkV x 5) (chunkV x 6) (chunkV x 7) (chunkV x 8) (chunkV x 9) (chunkV x 10) (chunkV x 11) (chunkV x 12) (chunkV x 13) (chunkV x 14) (chunkV x 15) (chunkV x 16) (chunkV x 17) (chunkV x 18) (chunkV x 19) (chunkV x 20) (chunkV x 21) (chunkV x 22) (chunkV x 23) (chunkV x 24) (chunkV x 25) (chunkV x 26) (chunkV x 27) (chunkV x 28) (chunkV x 29) (chunkV x 30) (k0_pay59 (k0_pay1 x)) k0_pay60 (k0_pay61 (k0_pay1 x))
    = pure ⟨chunkV x 31, gpW x⟩ := rfl

end Cert.Cumprod
-- ==== Proof.Outs.lean ====
/-
The kernel's parts that write the result, each run once: the chunks it has in place before and after, and what it
returns.
-/
module

public import proofs.«01_k».proof.Proof.Parts
public import proofs.«01_k».proof.Proof.Chunks

@[expose] public section

noncomputable section

namespace Cert.Cumprod

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop pointsTo_toks_split pointsTo_toks_join)
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- One chunk of the result written: the load of its rows, not used, and the store over them. -/
theorem chunk_step (c : Dev nD) (P : ℕ → FVec F S32x512 .bf16) (n : ℕ) {o : ℕ} (ho : o = 32 * n) {inb} {inb'} {w : FVec F S32x512 .bf16} (hw : w = P n)
    {hl : (oM : Memref sig .tc .vmem S1024x512 .bf16).view.LoadsAt (Rect.unit (s := S1024x512) ![o, 0] S32x512.size inb).toLoadRect}
    {hx : ((oM : Memref sig .tc .vmem S1024x512 .bf16).access (Rect.unit (s := S1024x512) ![o, 0] S32x512.size inb')).Stores Finset.univ} {hm}
    {α : Type} {Q : α → sProp 𝕄} {k : Prog (TpuEff nD τ sig (Elt F) Λ₀ .tc) α} :
    outTo c P n
      ⊢ iprop((outTo c P (n + 1) -∗ wp frame (wpE (defs₀ (F := F)) 𝒱₀ (c : Thread nD τ) none) Set.univ k Q)
          -∗ wp frame (wpE (defs₀ (F := F)) 𝒱₀ (c : Thread nD τ) none) Set.univ
              ((Prog.lift (.load oM (Rect.unit (s := S1024x512) ![o, 0] S32x512.size inb).toLoadRect hl) : Prog (TpuEff nD τ sig (Elt F) Λ₀ .tc) _) >>= fun _ =>
                (Prog.lift (.store oM (Rect.unit (s := S1024x512) ![o, 0] S32x512.size inb') w Finset.univ hx hm) : Prog (TpuEff nD τ sig (Elt F) Λ₀ .tc) _) >>= fun _ => k) Q) := by
  iintro H Hk
  iapply (out_load c P n) $$ H
  iintro H
  iapply (out_store c P n ho hw) $$ H
  iexact Hk

/-- What precedes each chunk of device `c`. -/
def ex (c : Dev nD) : FVec F S32x512 .f32 := exclV c (fun j => tot (xstg m ρ j)) (xstg m ρ c)
/-- Row `r` of that, as the program broadcasts it over a chunk. -/
def exRow (c : Dev nD) (r : ℕ) : FVec F S32x512 .f32 :=
  broadcastTo S32x512 (extractStridedSlice S1x512 ![r % 32, 0] (ex m ρ c) (row_slices r)) broadcasts_S1x512_S32x512

/-- Part 20: chunks 0 to 6. -/
theorem part20_run (c : Dev nD) :
    outTo c (outP m ρ c) 0
      ⊢ wp frame (wpE (defs₀ (F := F)) 𝒱₀ (c : Thread nD τ) none) Set.univ (k0_part20 xM (Memref.isWhole_whole _) oM (Memref.isWhole_whole _) tM (Memref.isWhole_whole _) cc0_scratch1 cc0_scratch2
            (chunkV (xstg m ρ c) 0) (chunkV (xstg m ρ c) 1) (chunkV (xstg m ρ c) 2) (chunkV (xstg m ρ c) 3) (chunkV (xstg m ρ c) 4) (chunkV (xstg m ρ c) 5) (chunkV (xstg m ρ c) 6) (chunkV (xstg m ρ c) 7) (ex m ρ c) (exRow m ρ c 0))
          (fun a => iprop(⌜a = outP m ρ c 7⌝ ∗ outTo c (outP m ρ c) 7)) := by
  rw [k0_part20_eq_skeleton]; unfold k0_part20_skel
  iintro H
  iapply (chunk_step c (outP m ρ c) 0 (o := 0) rfl rfl) $$ H
  iintro H
  iapply (chunk_step c (outP m ρ c) 1 (o := 32) rfl rfl) $$ H
  iintro H
  iapply (chunk_step c (outP m ρ c) 2 (o := 64) rfl rfl) $$ H
  iintro H
  iapply (chunk_step c (outP m ρ c) 3 (o := 96) rfl rfl) $$ H
  iintro H
  iapply (chunk_step c (outP m ρ c) 4 (o := 128) rfl rfl) $$ H
  iintro H
  iapply (chunk_step c (outP m ρ c) 5 (o := 160) rfl rfl) $$ H
  iintro H
  iapply (chunk_step c (outP m ρ c) 6 (o := 192) rfl rfl) $$ H
  iintro H
  iapply pure_done
  isplitr; · (ipureintro; rfl)
  iexact H

/-- Part 21: chunks 7 to 14. -/
theorem part21_run (c : Dev nD) :
    outTo c (outP m ρ c) 7
      ⊢ wp frame (wpE (defs₀ (F := F)) 𝒱₀ (c : Thread nD τ) none) Set.univ (k0_part21 xM (Memref.isWhole_whole _) oM (Memref.isWhole_whole _) tM (Memref.isWhole_whole _) cc0_scratch1 cc0_scratch2
            (chunkV (xstg m ρ c) 8) (chunkV (xstg m ρ c) 9) (chunkV (xstg m ρ c) 10) (chunkV (xstg m ρ c) 11) (chunkV (xstg m ρ c) 12) (chunkV (xstg m ρ c) 13) (chunkV (xstg m ρ c) 14) (ex m ρ c) (outP m ρ c 7))
          (fun a => iprop(⌜a = exRow m ρ c 15⌝ ∗ outTo c (outP m ρ c) 15)) := by
  rw [k0_part21_eq_skeleton]; unfold k0_part21_skel
  iintro H
  iapply (chunk_step c (outP m ρ c) 7 (o := 224) rfl rfl) $$ H
  iintro H
  iapply (chunk_step c (outP m ρ c) 8 (o := 256) rfl rfl) $$ H
  iintro H
  iapply (chunk_step c (outP m ρ c) 9 (o := 288) rfl rfl) $$ H
  iintro H
  iapply (chunk_step c (outP m ρ c) 10 (o := 320) rfl rfl) $$ H
  iintro H
  iapply (chunk_step c (outP m ρ c) 11 (o := 352) rfl rfl) $$ H
  iintro H
  iapply (chunk_step c (outP m ρ c) 12 (o := 384) rfl rfl) $$ H
  iintro H
  iapply (chunk_step c (outP m ρ c) 13 (o := 416) rfl rfl) $$ H
  iintro H
  iapply (chunk_step c (outP m ρ c) 14 (o := 448) rfl rfl) $$ H
  iintro H
  iapply pure_done
  isplitr; · (ipureintro; rfl)
  iexact H

/-- Part 22: chunks 15 to 21. -/
theorem part22_run (c : Dev nD) :
    outTo c (outP m ρ c) 15
      ⊢ wp frame (wpE (defs₀ (F := F)) 𝒱₀ (c : Thread nD τ) none) Set.univ (k0_part22 xM (Memref.isWhole_whole _) oM (Memref.isWhole_whole _) tM (Memref.isWhole_whole _) cc0_scratch1 cc0_scratch2
            (chunkV (xstg m ρ c) 15) (chunkV (xstg m ρ c) 16) (chunkV (xstg m ρ c) 17) (chunkV (xstg m ρ c) 18) (chunkV (xstg m ρ c) 19) (chunkV (xstg m ρ c) 20) (chunkV (xstg m ρ c) 21) (chunkV (xstg m ρ c) 22) (ex m ρ c) (exRow m ρ c 15))
          (fun a => iprop(⌜a = outP m ρ c 22⌝ ∗ outTo c (outP m ρ c) 22)) := by
  rw [k0_part22_eq_skeleton]; unfold k0_part22_skel
  iintro H
  iapply (chunk_step c (outP m ρ c) 15 (o := 480) rfl rfl) $$ H
  iintro H
  iapply (chunk_step c (outP m ρ c) 16 (o := 512) rfl rfl) $$ H
  iintro H
  iapply (chunk_step c (outP m ρ c) 17 (o := 544) rfl rfl) $$ H
  iintro H
  iapply (chunk_step c (outP m ρ c) 18 (o := 576) rfl rfl) $$ H
  iintro H
  iapply (chunk_step c (outP m ρ c) 19 (o := 608) rfl rfl) $$ H
  iintro H
  iapply (chunk_step c (outP m ρ c) 20 (o := 640) rfl rfl) $$ H
  iintro H
  iapply (chunk_step c (outP m ρ c) 21 (o := 672) rfl rfl) $$ H
  iintro H
  iapply pure_done
  isplitr; · (ipureintro; rfl)
  iexact H

/-- Part 23: chunks 22 to 29. -/
theorem part23_run (c : Dev nD) :
    outTo c (outP m ρ c) 22
      ⊢ wp frame (wpE (defs₀ (F := F)) 𝒱₀ (c : Thread nD τ) none) Set.univ (k0_part23 xM (Memref.isWhole_whole _) oM (Memref.isWhole_whole _) tM (Memref.isWhole_whole _) cc0_scratch1 cc0_scratch2
            (chunkV (xstg m ρ c) 23) (chunkV (xstg m ρ c) 24) (chunkV (xstg m ρ c) 25) (chunkV (xstg m ρ c) 26) (chunkV (xstg m ρ c) 27) (chunkV (xstg m ρ c) 28) (chunkV (xstg m ρ c) 29) (ex m ρ c) (outP m ρ c 22))
          (fun a => iprop(⌜a = exRow m ρ c 30⌝ ∗ outTo c (outP m ρ c) 30)) := by
  rw [k0_part23_eq_skeleton]; unfold k0_part23_skel
  iintro H
  iapply (chunk_step c (outP m ρ c) 22 (o := 704) rfl rfl) $$ H
  iintro H
  iapply (chunk_step c (outP m ρ c) 23 (o := 736) rfl rfl) $$ H
  iintro H
  iapply (chunk_step c (outP m ρ c) 24 (o := 768) rfl rfl) $$ H
  iintro H
  iapply (chunk_step c (outP m ρ c) 25 (o := 800) rfl rfl) $$ H
  iintro H
  iapply (chunk_step c (outP m ρ c) 26 (o := 832) rfl rfl) $$ H
  iintro H
  iapply (chunk_step c (outP m ρ c) 27 (o := 864) rfl rfl) $$ H
  iintro H
  iapply (chunk_step c (outP m ρ c) 28 (o := 896) rfl rfl) $$ H
  iintro H
  iapply (chunk_step c (outP m ρ c) 29 (o := 928) rfl rfl) $$ H
  iintro H
  iapply pure_done
  isplitr; · (ipureintro; rfl)
  iexact H

end Cert.Cumprod
-- ==== Proof.Families.lean ====
/-
What a device holds before its kernel and after it, and how the families of resources the communication steps move are
put together from the one and taken apart into the other.
-/
module

public import proofs.«01_k».proof.Proof.Outs

@[expose] public section

noncomputable section

namespace Cert.Cumprod

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop pointsTo_toks_split pointsTo_toks_join)
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Before -/

/-- The tokens of the signals device `c` makes. -/
def sigToks (c j : Dev nD) : sProp 𝕄 := if j < c then dutyTok ER (barCell j) 0 c else iprop(emp)
/-- The credit of the copies device `c` waits for. -/
def recvCred (c j : Dev nD) : sProp 𝕄 := if j < c then cred (tallyAt (recvCell c j) () N) else iprop(emp)

/-- The records, device `c`'s positions at its cells, and the tokens it pays with. -/
def ghost (K : Dev nD × CI → ℕ) (c : Dev nD) : sProp 𝕄 :=
  iprop(records m ρ K ∗ atPos ER (barCell c) 0 ∅ 0 ∗ (bigSep Finset.univ fun k : Dev nD => atPos ER (sendCell c k) 0 ∅ 0)
    ∗ (bigSep Finset.univ fun j : Dev nD => atPos ER (recvCell c j) 0 ∅ 0) ∗ bigSep Finset.univ (sigToks c) ∗ bigSep Finset.univ (sendToks c))

/-- What device `c`'s kernel starts from, its table of totals apart. -/
def start (c : Dev nD) : sProp 𝕄 :=
  iprop((∃ K, ghost m ρ K c) ∗ cred (tallyAt (barCell c) () (7 - c.val)) ∗ bigSep Finset.univ (recvCred (F := F) c))

/-- Device `c`'s table, whole. -/
def tblPts (c : Dev nD) : sProp 𝕄 := iprop(∃ f : Buf (Elt F) ((c : Thread nD τ).loc cc0_scratch0), (c : Thread nD τ).loc cc0_scratch0 ↦{fullShare} f)

/-- What the body starts from: that and the table. -/
def Φ₀ (c : Dev nD) : sProp 𝕄 := iprop(start m ρ c ∗ tblPts c)
/-- After the kernel: the table, and every cell's counter at zero. -/
def Φ₁ (c : Dev nD) : sProp 𝕄 :=
  iprop(tblPts (F := F) c ∗ (bigSep Finset.univ fun k : Dev nD => semVal (sendCell c k) 0) ∗ (bigSep Finset.univ fun j : Dev nD => semVal (recvCell c j) 0)
    ∗ semVal (barCell c) 0)

/-! ## Two facts of families -/

omit [FloatOps F] in
/-- A family changed member by member, using what may be used any number of times. -/
theorem family_with {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  refine (sep_mono_left (BI.bigSep_of_persistent S R)).trans ?_
  rw [← bigSep_sep']
  exact bigSep_mono fun i _ => h i

omit [FloatOps F] in
/-- A family changed member by member under an update. -/
theorem family_close {R : sProp 𝕄} [BI.Persistent R] {Φ Ψ : Dev nD → sProp 𝕄}
    (h : ∀ i, iprop(R ∗ Φ i) ⊢ |={Set.univ}=> Ψ i) : iprop(R ∗ bigSep Finset.univ Φ) ⊢ |={Set.univ}=> bigSep Finset.univ Ψ :=
  (family_with h).trans (bigSep_fupd _ _)

/-! ## The rows -/

/-- The rows device `c` keeps when it has given the lower devices theirs, its own not yet filled; -/
def keptRow₀ (c j : Dev nD) : sProp 𝕄 := if j < c then iprop(emp) else iprop(∃ f, rowPts c j fullShare f)
/-- filled and lent out. -/
def keptRow (c j : Dev nD) : sProp 𝕄 :=
  if j < c then iprop(emp) else if j = c then rowPts c c (shareDrop fullShare 8) (totBuf m ρ) else iprop(∃ f, rowPts c j fullShare f)
/-- Every row back, the own one still lent out. -/
def endRow (c j : Dev nD) : sProp 𝕄 :=
  if j = c then rowPts c c (shareDrop fullShare 8) (totBuf m ρ) else iprop(∃ f, rowPts c j fullShare f)

omit [FloatOps F] in
/-- A table is its rows; -/
theorem rows_split (c : Dev nD) : (tblPts c : sProp 𝕄) ⊢ bigSep Finset.univ fun j : Dev nD => iprop(∃ f, rowPts c j fullShare f) := by
  have e : ∀ f : Buf (Elt F) ((c : Thread nD τ).loc cc0_scratch0), ((c : Thread nD τ).loc cc0_scratch0 ↦{fullShare} f : sProp 𝕄)
      = bigSep Finset.univ fun j : Dev nD => rowPts c j fullShare f := fun f =>
    Ring.pointsTo_blocks (ℓ := (c : Thread nD τ).loc cc0_scratch0) rowSet (fun a b h => rows_disjoint a b h) rows_cover f
  have h : ∀ (f : Buf (Elt F) ((c : Thread nD τ).loc cc0_scratch0)) (j : Dev nD), (rowPts c j fullShare f : sProp 𝕄) ⊢ iprop(∃ f, rowPts c j fullShare f) := by
    intro f j; iintro H; iexists f; iexact H
  unfold tblPts
  iintro ⟨%f, H⟩
  iapply ((Entails.of_eq (e f)).trans (bigSep_mono fun j _ => h f j))
  iexact H

include m ρ in
/-- and the rows make the table. -/
theorem rows_join (c : Dev nD) : (bigSep Finset.univ fun j : Dev nD => iprop(∃ f, rowPts c j fullShare f)) ⊢ (tblPts c : sProp 𝕄) := by
  unfold tblPts rowPts
  exact Ring.pointsTo_blocks_join_exists (ℓ := (c : Thread nD τ).loc cc0_scratch0) rowSet (fun a b h => rows_disjoint a b h) rows_cover
    (totBuf m ρ)

omit [FloatOps F] in
/-- At the start the rows of the lower devices go with the signals. -/
theorem sig_start (c : Dev nD) :
    iprop(bigSep Finset.univ (sigToks c) ∗ bigSep Finset.univ fun j : Dev nD => iprop(∃ f, rowPts c j fullShare f))
      ⊢ (iprop(bigSep Finset.univ (sigSt c 0) ∗ bigSep Finset.univ (keptRow₀ c)) : sProp 𝕄) := by
  have h : ∀ j : Dev nD, (iprop(sigToks c j ∗ ∃ f, rowPts c j fullShare f) : sProp 𝕄) ⊢ iprop(sigSt c 0 j ∗ keptRow₀ c j) := by
    intro j
    unfold sigToks sigSt keptRow₀
    by_cases hj : j < c
    · rw [if_pos hj, if_pos hj, if_neg (Nat.not_lt_zero _), if_pos hj]
      iintro ⟨Ht, Hr⟩
      isplitl [Ht Hr]
      · isplitl [Ht] <;> iassumption
      · iempintro
    · rw [if_neg hj, if_neg hj, if_neg hj]
  rw [← bigSep_sep', ← bigSep_sep']
  exact bigSep_mono fun j _ => h j

/-- After the copies are issued, what the waits for the lower devices' copies start from; -/
theorem recv_start (c : Dev nD) :
    iprop((bigSep Finset.univ fun j : Dev nD => atPos ER (recvCell c j) 0 ∅ 0) ∗ bigSep Finset.univ (recvCred (F := F) c) ∗ bigSep Finset.univ (keptRow m ρ c))
      ⊢ bigSep Finset.univ (recvSt m ρ c 0) := by
  have h : ∀ j : Dev nD, iprop(atPos ER (recvCell c j) 0 ∅ 0 ∗ recvCred (F := F) c j ∗ keptRow m ρ c j) ⊢ recvSt m ρ c 0 j := by
    intro j
    unfold recvCred keptRow recvSt
    by_cases hj : j < c
    · rw [if_pos hj, if_pos hj, if_pos hj, if_neg (Nat.not_lt_zero _)]
      iintro ⟨Ha, Hc, -⟩
      isplitl [Ha] <;> iassumption
    · rw [if_neg hj, if_neg hj, if_neg hj]
      iintro ⟨Ha, -, Hr⟩
      isplitl [Ha] <;> iassumption
  rw [← bigSep_sep', ← bigSep_sep']
  exact bigSep_mono fun j _ => h j

/-- and the waits for the own copies. -/
theorem out_start (c : Dev nD) :
    iprop((bigSep Finset.univ fun k : Dev nD => atPos ER (sendCell c k) 0 ∅ 0) ∗ bigSep Finset.univ (sendSt m ρ c 8))
      ⊢ bigSep Finset.univ (outSt m ρ c 1) := by
  have h : ∀ k : Dev nD, iprop(atPos ER (sendCell c k) 0 ∅ 0 ∗ sendSt m ρ c 8 k) ⊢ outSt m ρ c 1 k := by
    intro k
    unfold sendSt outSt
    by_cases hk : c < k
    · have h1 : ¬ k.val < 1 := by rw [Fin.lt_def] at hk; omega
      rw [if_pos hk, if_pos hk, if_pos (show k.val < 8 from k.isLt), if_neg h1]
    · rw [if_neg hk, if_neg hk]
  rw [← bigSep_sep']
  exact bigSep_mono fun k _ => h k

/-! ## After -/

/-- The receive cells closed. -/
theorem recv_close (K : Dev nD × CI → ℕ) (c : Dev nD) :
    iprop(records m ρ K ∗ bigSep Finset.univ (recvSt m ρ c 7))
      ⊢ |={Set.univ}=> iprop((bigSep Finset.univ fun j : Dev nD => semVal (recvCell c j) 0) ∗ bigSep Finset.univ (endRow m ρ c)) := by
  rw [← bigSep_sep']
  refine family_close fun j => ?_
  unfold recvSt endRow recvPay
  by_cases hj : j < c
  · have h7 : j.val < 7 := by have : c.val < 8 := c.isLt; rw [Fin.lt_def] at hj; omega
    rw [if_pos hj, if_pos h7, if_neg (ne_of_lt hj)]
    iintro ⟨#HR, Ha, Hr⟩
    imod (Rounds.cell_close ER (Rd m ρ) (Set.mem_univ (K (iRecv c j))) (fun h => h) (R := 1) (duties_later m ρ (recvCell c j))) $$ [Ha] with Hz
    · isplitr; · iapply (records_inv m ρ K (iRecv c j)); iexact HR
      iexact Ha
    imodintro
    isplitl [Hz]; · iexact Hz
    iexists _; iexact Hr
  · rw [if_neg hj]
    iintro ⟨#HR, Ha, Hr⟩
    imod (Rounds.cell_close ER (Rd m ρ) (Set.mem_univ (K (iRecv c j))) (fun h => h) (R := 0) (duties_recv_none m ρ hj)) $$ [Ha] with Hz
    · isplitr; · iapply (records_inv m ρ K (iRecv c j)); iexact HR
      iexact Ha
    imodintro
    isplitl [Hz]; · iexact Hz
    iexact Hr

/-- The send cells closed. -/
theorem out_close (K : Dev nD × CI → ℕ) (c : Dev nD) :
    iprop(records m ρ K ∗ bigSep Finset.univ (outSt m ρ c 8))
      ⊢ |={Set.univ}=> iprop((bigSep Finset.univ fun k : Dev nD => semVal (sendCell c k) 0) ∗ bigSep Finset.univ (sendPay m ρ c)) := by
  rw [← bigSep_sep']
  refine family_close fun k => ?_
  unfold outSt
  by_cases hk : c < k
  · rw [if_pos hk, if_pos (show k.val < 8 from k.isLt)]
    iintro ⟨#HR, Ha, Hr⟩
    imod (Rounds.cell_close ER (Rd m ρ) (Set.mem_univ (K (iSend c k))) (fun h => h) (R := 1) (duties_later m ρ (sendCell c k))) $$ [Ha] with Hz
    · isplitr; · iapply (records_inv m ρ K (iSend c k)); iexact HR
      iexact Ha
    imodintro
    isplitl [Hz] <;> iassumption
  · rw [if_neg hk]
    iintro ⟨#HR, Ha, Hr⟩
    imod (Rounds.cell_close ER (Rd m ρ) (Set.mem_univ (K (iSend c k))) (fun h => h) (R := 0) (duties_send_none m ρ hk)) $$ [Ha] with Hz
    · isplitr; · iapply (records_inv m ρ K (iSend c k)); iexact HR
      iexact Ha
    imodintro
    isplitl [Hz] <;> iassumption

/-- The rows and the shares lent out put together into the whole table. -/
theorem table_back (c : Dev nD) : iprop(bigSep Finset.univ (endRow m ρ c) ∗ bigSep Finset.univ (sendPay m ρ c)) ⊢ tblPts c := by
  have fs := family_step (Φ := endRow (F := F) m ρ c) (Ψ := fun j => iprop(∃ f, rowPts c j fullShare f)) c fun j hj => by unfold endRow; rw [if_neg hj]
  have e : endRow (F := F) m ρ c c = rowPts c c (shareDrop fullShare 8) (totBuf m ρ) := by unfold endRow; rw [if_pos rfl]
  have hj : iprop(rowPts c c (shareDrop fullShare 8) (totBuf m ρ) ∗ bigSep Finset.univ (sendPay (F := F) m ρ c)) ⊢ rowPts c c fullShare (totBuf m ρ) := by
    unfold sendPay rowPts
    exact pointsTo_toks_join fullShare 8
  rw [e] at fs
  iintro ⟨Hr, Hs⟩
  ihave Hr := fs $$ Hr
  icases Hr with ⟨Hd, Hr⟩
  ihave Hc := hj $$ [Hd Hs]
  · isplitl [Hd] <;> iassumption
  iapply (rows_join m ρ c)
  iapply Hr
  iexists _; iexact Hc

end Cert.Cumprod
-- ==== Proof.Body.lean ====
/-
The kernel's body run once, at a device `c` left unknown: from what the device holds at launch to its block of the
result, every cell closed.
-/
module

public import proofs.«01_k».proof.Proof.Families

@[expose] public section

noncomputable section

namespace Cert.Cumprod

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop pointsTo_toks_split pointsTo_toks_join)
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- A part that only computes, then the rest. -/
theorem pure_step {c : Dev nD} {β α : Type} {p : Prog (TpuEff nD τ sig (Elt F) Λ₀ .tc) β} {a : β} (h : p = pure a)
    {k : β → Prog (TpuEff nD τ sig (Elt F) Λ₀ .tc) α} {Q : α → sProp 𝕄} :
    wp frame (wpE (defs₀ (F := F)) 𝒱₀ (c : Thread nD τ) none) Set.univ (k a) Q ⊢ wp frame (wpE (defs₀ (F := F)) 𝒱₀ (c : Thread nD τ) none) Set.univ (p >>= k) Q := by
  subst h; exact BI.Entails.refl _

/-! ## The parts at the block device `c` holds -/

/-- Copies to devices 5 to 7. -/
theorem part3_run' (K : Dev nD × CI → ℕ) (c : Dev nD) (v2 v75 : BitVec 32) :
    iprop(records m ρ K ∗ sendAll m ρ c 5)
      ⊢ wp frame (wpE (defs₀ (F := F)) 𝒱₀ (c : Thread nD τ) none) Set.univ (k0_part3 xM (Memref.isWhole_whole _) oM (Memref.isWhole_whole _) tM (Memref.isWhole_whole _) cc0_scratch1 cc0_scratch2 c v2 (k0_pay1 (xstg m ρ c)) v75)
          (fun a => iprop(⌜a = ⟨chunkV (xstg m ρ c) 0, k0_pay6 (k0_pay1 (xstg m ρ c)), k0_pay7, k0_pay8 (k0_pay1 (xstg m ρ c))⟩⌝ ∗ sendAll m ρ c 8)) :=
  part3_run m ρ K c v2 v75 _
/-- The rows of devices 0 to 3 received. -/
theorem part18_run' (K : Dev nD × CI → ℕ) (c : Dev nD) :
    iprop(records m ρ K ∗ recvAll m ρ c 0)
      ⊢ wp frame (wpE (defs₀ (F := F)) 𝒱₀ (c : Thread nD τ) none) Set.univ (k0_part18 xM (Memref.isWhole_whole _) oM (Memref.isWhole_whole _) tM (Memref.isWhole_whole _) cc0_scratch1 cc0_scratch2 (dw c) (gpW (xstg m ρ c)))
          (fun a => iprop(⌜a = ⟨gpV (xstg m ρ c), k0_pay65 (dw c) (tot (xstg m ρ 0)) (tot (xstg m ρ 1)) (tot (xstg m ρ 2)), Scalar.cmpi .sgt (dw c) 3#32⟩⌝ ∗ recvAll m ρ c 4)) :=
  part18_run m ρ K c _
/-- The rows of devices 4 to 6 received. -/
theorem part19_run' (K : Dev nD × CI → ℕ) (c : Dev nD) :
    iprop(records m ρ K ∗ recvAll m ρ c 4)
      ⊢ wp frame (wpE (defs₀ (F := F)) 𝒱₀ (c : Thread nD τ) none) Set.univ (k0_part19 xM (Memref.isWhole_whole _) oM (Memref.isWhole_whole _) tM (Memref.isWhole_whole _) cc0_scratch1 cc0_scratch2 (dw c) (gpV (xstg m ρ c)) (k0_pay65 (dw c) (tot (xstg m ρ 0)) (tot (xstg m ρ 1)) (tot (xstg m ρ 2))) (Scalar.cmpi .sgt (dw c) 3#32))
          (fun a => iprop(⌜a = ⟨ex m ρ c, exRow m ρ c 0⟩⌝ ∗ recvAll m ρ c 7)) :=
  part19_run m ρ K c _ _

/-- The conditions of the waits for the own copies. -/
theorem cond22_iff (c : Dev nD) : k0_cond22 c = 1#1 ↔ c < (1 : Dev nD) := by revert c; decide
theorem cond23_iff (c : Dev nD) : k0_cond23 c = 1#1 ↔ c < (2 : Dev nD) := by revert c; decide
theorem cond24_iff (c : Dev nD) : k0_cond24 c = 1#1 ↔ c < (3 : Dev nD) := by revert c; decide
theorem cond25_iff (c : Dev nD) : k0_cond25 c = 1#1 ↔ c < (4 : Dev nD) := by revert c; decide
theorem cond26_iff (c : Dev nD) : k0_cond26 c = 1#1 ↔ c < (5 : Dev nD) := by revert c; decide
theorem cond27_iff (c : Dev nD) : k0_cond27 c = 1#1 ↔ c < (6 : Dev nD) := by revert c; decide
theorem cond28_iff (c : Dev nD) : k0_cond28 c = 1#1 ↔ c < (7 : Dev nD) := by revert c; decide

/-! ## The body -/

/-- All but the waits for the last own copies. -/
theorem part24_run (K : Dev nD × CI → ℕ) (c : Dev nD) :
    iprop(ghost m ρ K c ∗ cred (tallyAt (barCell c) () (7 - c.val)) ∗ bigSep Finset.univ (recvCred (F := F) c) ∗ tblPts c
        ∗ owesSome c (O₀ c) ∗ xPts m ρ c ∗ outTo c (outP m ρ c) 0)
      ⊢ wp frame (wpE (defs₀ (F := F)) 𝒱₀ (c : Thread nD τ) none) Set.univ (k0_part24 xM (Memref.isWhole_whole _) oM (Memref.isWhole_whole _) tM (Memref.isWhole_whole _) cc0_scratch1 cc0_scratch2)
          (fun a => iprop(⌜a = ⟨c, dw c⟩⌝ ∗ atPos ER (barCell c) 1 ∅ 0 ∗ bigSep Finset.univ (recvSt m ρ c 7) ∗ outAll m ρ c 4
            ∗ xPts m ρ c ∗ outTo c (outP m ρ c) 32)) := by
  rw [k0_part24_eq_skeleton]; unfold k0_part24_skel ghost
  iintro ⟨⟨#HR, Hbar, Has, Har, Hst, Hct⟩, Hcb, Hcr, Htbl, HO, Hx, Hout⟩
  ihave Hrows := (rows_split c) $$ Htbl
  ihave Hs := (sig_start c) $$ [Hst Hrows]
  · isplitl [Hst] <;> iassumption
  icases Hs with ⟨Hs, Hkept⟩
  have fs := family_step (Φ := keptRow₀ (F := F) c) (Ψ := keptRow m ρ c) c fun j hj => by unfold keptRow₀ keptRow; rw [if_neg hj]
  have e1 : keptRow₀ (F := F) c c = iprop(∃ f, rowPts c c fullShare f) := by unfold keptRow₀; rw [if_neg (lt_irrefl c)]
  have e2 : keptRow (F := F) m ρ c c = rowPts c c (shareDrop fullShare 8) (totBuf m ρ) := by unfold keptRow; rw [if_neg (lt_irrefl c), if_pos rfl]
  rw [e1, e2] at fs
  ihave Hkept := fs $$ Hkept
  icases Hkept with ⟨Hrow, Hkept⟩
  ihave Hsig := (show iprop(bigSep Finset.univ (sigSt (F := F) c 0) ∗ owesSome c (O₀ c)) ⊢ sigAll c 0 from by unfold sigAll O₀; exact BI.Entails.refl _) $$ [Hs HO]
  · isplitl [Hs] <;> iassumption
  -- the signals
  iapply (bind_step (part1_run m ρ K c)) $$ [Hsig Hx]
  · isplitr; · iexact HR
    isplitl [Hsig] <;> iassumption
  iintro %a ⟨%ha, Hsig, Hx⟩
  subst ha
  -- the barrier, and the copies
  iapply (bind_step (part2_run m ρ K c _)) $$ [Hrow Hbar Hcb Hct Hsig]
  · isplitr; · iexact HR
    isplitl [Hrow]; · iexact Hrow
    isplitl [Hbar]; · iexact Hbar
    isplitl [Hcb]; · iexact Hcb
    isplitl [Hct] <;> iassumption
  iintro %v75 ⟨Hbar, Hd, Hsend⟩
  iapply (bind_step (part3_run' m ρ K c _ _)) $$ [Hsend]
  · isplitr; · iexact HR
    iexact Hsend
  iintro %a ⟨%ha, Hsend⟩
  subst ha
  ihave Hsend := (show sendAll (F := F) m ρ c 8 ⊢ iprop(bigSep Finset.univ (sendSt m ρ c 8) ∗ owesSome c 0) from by
    unfold sendAll; rw [sendO_done]) $$ Hsend
  icases Hsend with ⟨Hsend, HO⟩
  ihave Hkept := Hkept $$ Hd
  ihave Hrecv := (recv_start m ρ c) $$ [Har Hcr Hkept]
  · isplitl [Har]; · iexact Har
    isplitl [Hcr] <;> iassumption
  ihave Hws := (out_start m ρ c) $$ [Has Hsend]
  · isplitl [Has] <;> iassumption
  ihave Hrecv := (show iprop(bigSep Finset.univ (recvSt (F := F) m ρ c 0) ∗ owesSome c 0) ⊢ recvAll m ρ c 0 from by unfold recvAll; exact BI.Entails.refl _) $$ [Hrecv HO]
  · isplitl [Hrecv] <;> iassumption
  -- the chunks' products
  iapply (pure_step (part4_eq (xstg m ρ c)))
  iapply (pure_step (part5_eq (xstg m ρ c)))
  iapply (pure_step (part6_eq (xstg m ρ c)))
  iapply (pure_step (part7_eq (xstg m ρ c)))
  iapply (pure_step (part8_eq (xstg m ρ c)))
  iapply (pure_step (part9_eq (xstg m ρ c)))
  iapply (pure_step (part10_eq (xstg m ρ c)))
  iapply (pure_step (part11_eq (xstg m ρ c)))
  iapply (pure_step (part12_eq (xstg m ρ c)))
  iapply (pure_step (part13_eq (xstg m ρ c)))
  iapply (pure_step (part14_eq (xstg m ρ c)))
  iapply (pure_step (part15_eq (xstg m ρ c)))
  iapply (pure_step (part16_eq (xstg m ρ c)))
  iapply (pure_step (part17_eq (xstg m ρ c)))
  -- the lower devices' totals
  iapply (bind_step (part18_run' m ρ K c)) $$ [Hrecv]
  · isplitr; · iexact HR
    iexact Hrecv
  iintro %a ⟨%ha, Hrecv⟩
  subst ha
  iapply (bind_step (part19_run' m ρ K c)) $$ [Hrecv]
  · isplitr; · iexact HR
    iexact Hrecv
  iintro %a ⟨%ha, Hrecv⟩
  subst ha
  -- the result
  iapply (bind_step (part20_run m ρ c)) $$ Hout
  iintro %a ⟨%ha, Hout⟩
  subst ha
  iapply (bind_step (part21_run m ρ c)) $$ Hout
  iintro %a ⟨%ha, Hout⟩
  subst ha
  iapply (bind_step (part22_run m ρ c)) $$ Hout
  iintro %a ⟨%ha, Hout⟩
  subst ha
  iapply (bind_step (part23_run m ρ c)) $$ Hout
  iintro %a ⟨%ha, Hout⟩
  subst ha
  iapply (chunk_step c (outP m ρ c) 30 (o := 960) rfl rfl) $$ Hout
  iintro Hout
  iapply (chunk_step c (outP m ρ c) 31 (o := 992) rfl rfl) $$ Hout
  iintro Hout
  -- the first waits for the own copies
  unfold recvAll
  icases Hrecv with ⟨Hrecv, HO⟩
  ihave Hws := (show iprop(bigSep Finset.univ (outSt (F := F) m ρ c 1) ∗ owesSome c 0) ⊢ outAll m ρ c 1 from by unfold outAll; exact BI.Entails.refl _) $$ [Hws HO]
  · isplitl [Hws] <;> iassumption
  iapply (out_step m ρ K c 1 (C := k0_cond22 c = 1#1) (cond22_iff c) (j := c)
    (fun h => row_eq (inb := k0_off16_inb c h) (hs := fun _ => rfl) (k0_off16_eq c)) (fun h => sendS_eq inb_S8_S1_1 1 rfl)) $$ [Hws]
  · isplitr; · iexact HR
    iexact Hws
  iintro Hws
  iapply (out_step m ρ K c 2 (C := k0_cond23 c = 1#1) (cond23_iff c) (j := c)
    (fun h => row_eq (inb := k0_off17_inb c h) (hs := fun _ => rfl) (k0_off17_eq c)) (fun h => sendS_eq inb_S8_S1_2 2 rfl)) $$ [Hws]
  · isplitr; · iexact HR
    iexact Hws
  iintro Hws
  iapply (out_step m ρ K c 3 (C := k0_cond24 c = 1#1) (cond24_iff c) (j := c)
    (fun h => row_eq (inb := k0_off18_inb c h) (hs := fun _ => rfl) (k0_off18_eq c)) (fun h => sendS_eq inb_S8_S1_3 3 rfl)) $$ [Hws]
  · isplitr; · iexact HR
    iexact Hws
  iintro Hws
  iapply pure_done
  isplitr; · (ipureintro; rfl)
  isplitl [Hbar]; · iexact Hbar
  isplitl [Hrecv]; · iexact Hrecv
  isplitl [Hws]; · iexact Hws
  isplitl [Hx] <;> iassumption

/-- The body. -/
theorem body_run (K : Dev nD × CI → ℕ) (c : Dev nD) :
    iprop(ghost m ρ K c ∗ cred (tallyAt (barCell c) () (7 - c.val)) ∗ bigSep Finset.univ (recvCred (F := F) c) ∗ tblPts c
        ∗ owesSome c (O₀ c) ∗ xPts m ρ c ∗ outTo c (outP m ρ c) 0)
      ⊢ wp frame (wpE (defs₀ (F := F)) 𝒱₀ (c : Thread nD τ) none) Set.univ (cc0_body xM (Memref.isWhole_whole _) oM (Memref.isWhole_whole _) tM (Memref.isWhole_whole _) cc0_scratch1 cc0_scratch2)
          (fun _ => iprop(Φ₁ c ∗ owesSome c 0 ∗ xPts m ρ c ∗ outTo c (outP m ρ c) 32)) := by
  rw [cc0_body_eq_skeleton]; unfold cc0_body_skel
  iintro ⟨Hg, Hrest⟩
  ihave Hg := (show ghost m ρ K c ⊢ iprop(records m ρ K ∗ ghost m ρ K c) from by
    unfold ghost
    iintro ⟨#HR, H⟩
    isplitr; · iexact HR
    isplitr; · iexact HR
    iexact H) $$ Hg
  icases Hg with ⟨#HR, Hg⟩
  iapply (bind_step (part24_run m ρ K c)) $$ [Hg Hrest]
  · isplitl [Hg] <;> iassumption
  iintro %a ⟨%ha, Hbar, Hrecv, Hws, Hx, Hout⟩
  subst ha
  iapply (out_step m ρ K c 4 (C := k0_cond25 c = 1#1) (cond25_iff c) (j := c)
    (fun h => row_eq (inb := k0_off19_inb c h) (hs := fun _ => rfl) (k0_off19_eq c)) (fun h => sendS_eq inb_S8_S1_4 4 rfl)) $$ [Hws]
  · isplitr; · iexact HR
    iexact Hws
  iintro Hws
  iapply (out_step m ρ K c 5 (C := k0_cond26 c = 1#1) (cond26_iff c) (j := c)
    (fun h => row_eq (inb := k0_off20_inb c h) (hs := fun _ => rfl) (k0_off20_eq c)) (fun h => sendS_eq inb_S8_S1_5 5 rfl)) $$ [Hws]
  · isplitr; · iexact HR
    iexact Hws
  iintro Hws
  iapply (out_step m ρ K c 6 (C := k0_cond27 c = 1#1) (cond27_iff c) (j := c)
    (fun h => row_eq (inb := k0_off21_inb c h) (hs := fun _ => rfl) (k0_off21_eq c)) (fun h => sendS_eq inb_S8_S1_6 6 rfl)) $$ [Hws]
  · isplitr; · iexact HR
    iexact Hws
  iintro Hws
  iapply (out_step m ρ K c 7 (C := k0_cond28 c = 1#1) (cond28_iff c) (j := c)
    (fun h => row_eq (inb := k0_off22_inb c h) (hs := fun _ => rfl) (k0_off22_eq c)) (fun h => sendS_eq inb_S8_S1_7 7 rfl)) $$ [Hws]
  · isplitr; · iexact HR
    iexact Hws
  iintro Hws
  unfold outAll
  icases Hws with ⟨Hws, HO⟩
  rw [Prog.pure_eq_ret, wp_ret]
  imod (recv_close m ρ K c) $$ [Hrecv] with ⟨Hzr, Hrows⟩
  · isplitr; · iexact HR
    iexact Hrecv
  imod (out_close m ρ K c) $$ [Hws] with ⟨Hzs, Hsh⟩
  · isplitr; · iexact HR
    iexact Hws
  imod (Rounds.cell_close ER (Rd m ρ) (Set.mem_univ (K (iBar c))) (fun h => h) (R := 1) (duties_later m ρ (barCell c))) $$ [Hbar] with Hzb
  · isplitr; · iapply (records_inv m ρ K (iBar c)); iexact HR
    iexact Hbar
  ihave Htbl := (table_back m ρ c) $$ [Hrows Hsh]
  · isplitl [Hrows] <;> iassumption
  imodintro
  unfold Φ₁
  isplitl [Htbl Hzs Hzr Hzb]
  · isplitl [Htbl]; · iexact Htbl
    isplitl [Hzs]; · iexact Hzs
    isplitl [Hzr] <;> iassumption
  isplitl [HO]; · iexact HO
  isplitl [Hx] <;> iassumption

end Cert.Cumprod
-- ==== Proof.Obligation.lean ====
/-
The kernel's body as the obligation the launch asks for: what the pipeline hands the body and what it takes back.
-/
module

public import proofs.«01_k».proof.Proof.Body

@[expose] public section

noncomputable section

namespace Cert.Cumprod

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop pointsTo_toks_split pointsTo_toks_join)
open Idealize.ShloMosaic.Rounds Idealize.ShloMosaic.ValueIdx

open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The obligation -/

/-- Device `c`'s block of the result. -/
def outAt (c : Dev nD) : (cc0_stg1_0 : Ref sig .tc).ty.Contents (Elt F) := rowsOf (outP m ρ c)

/-- The contents, duties and debts of the one call. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The argument is fetched. -/
theorem fetch_0 (t : Fin cfg0.N) : (cfg0.win (0 : Fin 2)).fetch t = true := fetch0_0 t

omit [FloatOps F] in
/-- A staging buffer owned whole. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held at contents `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is given; -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- and what it gives back. -/
def bodyPost (c : Dev nD) : sProp 𝕄 :=
  iprop(Φ₁ (F := F) c ∗ (dats m ρ 0 c).owesAt () t0_0.succ ∗ stg c cc0_stg0_0 (xstg m ρ c) ∗ stg c cc0_stg1_0 (outAt m ρ c))

/-- What the body is given, taken apart. -/
theorem pre_split (c : Dev nD) : bodyPre m ρ c ⊢ iprop(start m ρ c ∗ tblPts c ∗ owesSome c (O₀ c) ∗ xPts m ρ c ∗ outTo c (outP m ρ c) 0) := by
  unfold bodyPre Φ₀ Dat.owesAt Pipeline.owesWithin stg owesSome xPts outTo
  rw [show (dats m ρ 0 c).owed t0_0.castSucc = O₀ c from rfl]
  iintro ⟨⟨Hs, Ht⟩, ⟨%W, %hW, HO⟩, ⟨%d0, %g0, %hg0, Hx⟩, ⟨%d1, %g1, %hg1, Hout⟩⟩
  have hx : g0 = xstg m ρ c := by rw [hg0]; unfold Dat.before; rw [if_pos (fetch_0 t0_0)]; rfl
  subst hx
  isplitl [Hs]; · iexact Hs
  isplitl [Ht]; · iexact Ht
  isplitl [HO]; · iexists W; iexact HO
  isplitl [Hx]; · iexact Hx
  iexists g1
  isplitr
  · ipureintro; intro i hi; exact absurd hi (Nat.not_lt_zero _)
  · iexact Hout

/-- What the body leaves, put together. -/
theorem post_join (c : Dev nD) : iprop(Φ₁ (F := F) c ∗ owesSome c 0 ∗ xPts m ρ c ∗ outTo c (outP m ρ c) 32) ⊢ bodyPost m ρ c := by
  unfold bodyPost Dat.owesAt Pipeline.owesWithin stg owesSome xPts outTo outAt
  rw [show (dats m ρ 0 c).owed t0_0.succ = 0 from rfl]
  iintro ⟨HP, ⟨%W, HO⟩, Hx, ⟨%f, %hf, Hout⟩⟩
  isplitl [HP]; · iexact HP
  isplitl [HO]
  · iexists W
    isplitr; · (ipureintro; exact fun _ _ => Or.inl trivial)
    iexact HO
  isplitl [Hx]
  · iexists _; isplitr; · (ipureintro; rfl)
    iexact Hx
  iexists f
  isplitr
  · ipureintro; funext i; exact hf i (show (i 0).val < 32 * 32 from (i 0).isLt)
  · iexact Hout

/-- The body meets its obligation. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_stg]
  show bodyPre m ρ c ⊢ wp frame (wpE (defs₀ (F := F)) 𝒱₀ (c : Thread nD τ) none) Set.univ
    (cc0_body xM (Memref.isWhole_whole _) oM (Memref.isWhole_whole _) tM (Memref.isWhole_whole _) cc0_scratch1 cc0_scratch2) (fun _ => bodyPost m ρ c)
  refine (pre_split m ρ c).trans ?_
  unfold start
  iintro ⟨⟨⟨%K, Hg⟩, Hcb, Hcr⟩, Ht, HO, Hx, Hout⟩
  iapply ((body_run m ρ K c).trans (wp_mono _ _ _ fun _ => post_join m ρ c))
  isplitl [Hg]; · iexact Hg
  isplitl [Hcb]; · iexact Hcb
  isplitl [Hcr]; · iexact Hcr
  isplitl [Ht]; · iexact Ht
  isplitl [HO]; · iexact HO
  isplitl [Hx] <;> iassumption

end Cert.Cumprod
-- ==== Proof.Launch.lean ====
/-
The launch: what it deals each device — positions, tokens and credits — and the run of the whole program from any memory
with zero counters.
-/
module

public import proofs.«01_k».proof.Proof.Obligation
public import Idealize.ShloMosaic.Lib.Pipeline.CollectiveSegs

@[expose] public section

noncomputable section

namespace Cert.Cumprod

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop pointsTo_toks_split pointsTo_toks_join)
open Idealize.ShloMosaic.Rounds Idealize.ShloMosaic.ValueIdx

open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The scoped semaphores are the kernel's own. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- The cells of a device are different semaphores, -/
theorem csem_injective : Function.Injective csem := by decide
/-- and those of all devices different cells. -/
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- The cells of the protocol. -/
def allCells : Finset (GSem nD τ sig) := Finset.univ.map ⟨kcell, kcell_injective⟩

/-- A device's tokens: of its barrier, by the paying device; of its send semaphores; of its receive semaphores. -/
abbrev TI : Type := Dev nD ⊕ OI
abbrev tokSem : TI → SemLoc sig × Dev nD := Sum.elim (fun k => (.reg barS, k)) (fun i => (osem i, 0))
/-- The tokens of a device are of different semaphores, -/
theorem tokSem_injective : Function.Injective tokSem := by decide
abbrev tokOf (ci : Dev nD × TI) : GSem nD τ sig × ℕ × Dev nD := (((ci.1 : Thread nD τ), (tokSem ci.2).1), 0, (tokSem ci.2).2)
/-- and no token is dealt twice. -/
theorem tokOf_injective : Function.Injective (tokOf : Dev nD × TI → GSem nD τ sig × ℕ × Dev nD) := by
  rintro ⟨c, k⟩ ⟨c', k'⟩ h
  have h1 : c = c' := congrArg (fun g : GSem nD τ sig × ℕ × Dev nD => g.1.1.1) h
  have h2 : k = k' := tokSem_injective (congrArg (fun g : GSem nD τ sig × ℕ × Dev nD => (g.1.2, g.2.2)) h)
  rw [h1, h2]
/-- The tokens of the protocol. -/
def allToks : Finset (GSem nD τ sig × ℕ × Dev nD) := Finset.univ.map ⟨tokOf, tokOf_injective⟩

/-- The resources at launch. -/
def u₀ : UU := (initOf (Pipeline.cells cfgs cellOf_inj) (Pipeline.launchToks cfgs cellOf_inj), initOf allCells allToks)

/-- The tokens of device `c`'s own cells. -/
def toks (c : Dev nD) : sProp 𝕄 :=
  iprop((bigSep Finset.univ fun k : Dev nD => dutyTok ER (barCell c) 0 k)
    ∗ (bigSep Finset.univ fun k : Dev nD => dutyTok ER (sendCell c k) 0 0) ∗ bigSep Finset.univ fun j : Dev nD => dutyTok ER (recvCell c j) 0 0)

/-- What the launch deals device `c`; -/
def G (c : Dev nD) : sProp 𝕄 :=
  iprop((bigSep Finset.univ fun k : CI => roundState ER (Rd m ρ) (kcell (c, k)) 0)
    ∗ ((bigSep Finset.univ fun k : CI => atPos ER (kcell (c, k)) 0 ∅ 0) ∗ bigSep Finset.univ fun k : CI => reached ER (kcell (c, k)) 0) ∗ toks c)

/-- the records but for the levels; -/
def records₀ (K : Dev nD × CI → ℕ) : sProp 𝕄 :=
  iprop((bigSep Finset.univ fun ci : Dev nD × CI => cellInv ER (Rd m ρ) (K ci) (kcell ci)) ∗ bigSep Finset.univ fun ci : Dev nD × CI => reached ER (kcell ci) 0)
instance records₀_persistent (K : Dev nD × CI → ℕ) : BI.Persistent (records₀ m ρ K) := by unfold records₀; infer_instance

/-- what stays with device `c`: its positions, and the tokens it pays with; -/
def held (c : Dev nD) : sProp 𝕄 :=
  iprop((bigSep Finset.univ fun k : CI => atPos ER (kcell (c, k)) 0 ∅ 0) ∗ bigSep Finset.univ (sigToks (F := F) c) ∗ bigSep Finset.univ (sendToks (F := F) c))
/-- and what the launch makes of what it dealt. -/
def G' (c : Dev nD) : sProp 𝕄 := iprop(∃ K, records₀ m ρ K ∗ held (F := F) c)

/-- The resources at launch, dealt to the devices. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [BI.bigSep_univ_sum, BI.bigSep_univ_sum]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The scoped counters at zero, in the two families. -/
theorem ownSems0_eq (c : Dev nD) : (Pipeline.ownSems0 (Ix := Unit) (Name := ℕ) (U := UU) (Lvl := ℕ) (Val := Elt F) (τ := τ) osem c : sProp 𝕄)
    = iprop((bigSep Finset.univ fun k : Dev nD => semVal (sendCell c k) 0) ∗ bigSep Finset.univ fun j : Dev nD => semVal (recvCell c j) 0) := by
  unfold Pipeline.ownSems0; rw [BI.bigSep_univ_sum]; rfl
omit [FloatOps F] in
/-- The barrier is the only semaphore that outlives the call. -/
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
/-- A family over the cells of a device: the barrier and the rest; -/
theorem bigSep_CI (Φ : CI → sProp 𝕄) : bigSep Finset.univ Φ = iprop(Φ (.inl ()) ∗ bigSep Finset.univ fun i : OI => Φ (.inr i)) := by
  rw [BI.bigSep_univ_sum, BI.bigSep_univ_of_subsingleton (i := ())]; rfl
omit [FloatOps F] in
/-- and the rest: the send semaphores and the receive ones. -/
theorem bigSep_OI (Φ : OI → sProp 𝕄) :
    bigSep Finset.univ Φ = iprop((bigSep Finset.univ fun k : Dev nD => Φ (.inl k)) ∗ bigSep Finset.univ fun j : Dev nD => Φ (.inr j)) := by
  rw [BI.bigSep_univ_sum]; rfl

/-- One device's cells, opened. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (Rd m ρ) κ (kcell (c, k))))
          ∗ ((bigSep Finset.univ fun k : CI => atPos ER (kcell (c, k)) 0 ∅ 0) ∗ bigSep Finset.univ fun k : CI => reached ER (kcell (c, k)) 0) ∗ toks c) := by
  have hv : iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
    rw [bigSep_CI, unscopedSems0_eq]
    unfold Pipeline.ownSems0
    exact BI.sep_comm
  have ha : iprop((bigSep Finset.univ fun k : CI => semVal (kcell (c, k)) 0) ∗ bigSep Finset.univ fun k : CI => roundState ER (Rd m ρ) (kcell (c, k)) 0)
      ⊢ (|={Set.univ}=> bigSep Finset.univ fun k : CI => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G
  iintro ⟨Hos, Hus, Hst, Hat, Htok⟩
  ihave Hv := hv $$ [Hos Hus]
  · isplitl [Hos] <;> iassumption
  imod ha $$ [Hv Hst] with Hinv
  · isplitl [Hv] <;> iassumption
  imodintro
  isplitl [Hinv]; · iexact Hinv
  isplitl [Hat] <;> iassumption

omit [FloatOps F] in
/-- The tokens dealt to the devices that pay with them: of `c`'s barrier, duty `k` to `k`; of its receive semaphore `j`, to `j`. -/
theorem toks_dealt : (bigSep Finset.univ fun c : Dev nD => (toks c : sProp 𝕄))
    ⊢ bigSep Finset.univ fun c : Dev nD => iprop(bigSep Finset.univ (sigToks (F := F) c) ∗ bigSep Finset.univ (sendToks (F := F) c)) := by
  have hs : ∀ c j : Dev nD, (dutyTok ER (barCell j) 0 c : sProp 𝕄) ⊢ sigToks c j := by
    intro c j; unfold sigToks
    by_cases h : j < c
    · rw [if_pos h]
    · rw [if_neg h]; iintro -; iempintro
  have hk : ∀ c k : Dev nD, (iprop(dutyTok ER (sendCell c k) 0 0 ∗ dutyTok ER (recvCell k c) 0 0) : sProp 𝕄) ⊢ sendToks c k := by
    intro c k; unfold sendToks
    by_cases h : c < k
    · rw [if_pos h]
    · rw [if_neg h]; iintro -; iempintro
  unfold toks
  rw [bigSep_sep', bigSep_sep', bigSep_sep',
    bigSep_univ_comm (fun c k : Dev nD => (dutyTok ER (barCell c) 0 k : sProp 𝕄)),
    bigSep_univ_comm (fun c j : Dev nD => (dutyTok ER (recvCell c j) 0 0 : sProp 𝕄))]
  refine BI.sep_mono (bigSep_mono fun c _ => bigSep_mono fun j _ => hs c j) ?_
  rw [← bigSep_sep']
  refine bigSep_mono fun c _ => ?_
  rw [← bigSep_sep']
  exact bigSep_mono fun k _ => hk c k

/-- The tokens, from the cells they belong to, regrouped by the devices that use them. -/
theorem regroup :
    (bigSep Finset.univ fun c : Dev nD => iprop((bigSep Finset.univ fun k : CI => iprop(∃ κ : ℕ, cellInv ER (Rd m ρ) κ (kcell (c, k))))
          ∗ ((bigSep Finset.univ fun k : CI => atPos ER (kcell (c, k)) 0 ∅ 0) ∗ bigSep Finset.univ fun k : CI => reached ER (kcell (c, k)) 0) ∗ toks c) : sProp 𝕄)
      ⊢ bigSep Finset.univ (G' m ρ) := by
  have hg : ∀ (K : Dev nD × CI → ℕ) (c : Dev nD), iprop(records₀ m ρ K ∗ held (F := F) c) ⊢ G' m ρ c := by
    intro K c; unfold G'; iintro H; iexists K; iexact H
  have hh : iprop((bigSep Finset.univ fun c : Dev nD => bigSep Finset.univ fun k : CI => atPos ER (kcell (c, k)) 0 ∅ 0)
      ∗ bigSep Finset.univ fun c : Dev nD => iprop(bigSep Finset.univ (sigToks (F := F) c) ∗ bigSep Finset.univ (sendToks (F := F) c)))
      ⊢ bigSep Finset.univ (held (F := F)) := by
    rw [← bigSep_sep']
    exact bigSep_mono fun c _ => by unfold held; exact BI.Entails.refl _
  rw [bigSep_sep', bigSep_sep', bigSep_sep', ← bigSep_univ_prod (fun ck : Dev nD × CI => iprop(∃ κ : ℕ, cellInv ER (Rd m ρ) κ (kcell ck))),
    ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m ρ) κ (kcell ck) : sProp 𝕄))) $$ HI
  icases HK with ⟨%K, #HI⟩
  ihave Htk := (toks_dealt (F := F)) $$ Htok
  iapply (family_with (R := records₀ m ρ K) (hg K))
  isplitr
  · unfold records₀; isplitl; · iexact HI
    iexact HR
  · iapply hh; isplitl [Hat] <;> iassumption

/-- The launch's step over every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What all devices together owe device `d`: a signal from each higher device, a copy from each lower one. -/
def T₀ (d : Dev nD) : CellTallies nD τ sig Unit :=
  (∑ j, if j < d then tallyAt (recvCell d j) () N else 0) + ∑ k, if d < k then tallyAt (barCell d) () 1 else 0

/-- What a device owes at launch, as sums over all devices. -/
theorem O₀_eq (c : Dev nD) : O₀ c = (∑ k, if c < k then tallyAt (recvCell k c) () N else 0) + ∑ j, if j < c then tallyAt (barCell j) () 1 else 0 := by
  unfold O₀ sendO sigO
  rw [← Finset.sum_filter, ← Finset.sum_filter]
  congr 1
  · refine Finset.sum_congr (Finset.ext fun k => ?_) fun _ _ => rfl
    simp only [Finset.mem_filter, Finset.mem_univ, true_and, Fin.lt_def]; omega
  · refine Finset.sum_congr (Finset.ext fun k => ?_) fun _ _ => rfl
    simp only [Finset.mem_filter, Finset.mem_univ, true_and, Fin.lt_def]; omega

/-- What all owe is what all are owed. -/
theorem owed_sum : (∑ d, O₀ d) = ∑ d, T₀ d := by
  unfold T₀
  rw [Finset.sum_congr rfl fun d _ => O₀_eq d, Finset.sum_add_distrib, Finset.sum_add_distrib]
  congr 1
  · exact Finset.sum_comm
  · exact Finset.sum_comm

/-- What is owed to a device is owed to its own cells. -/
theorem T₀_own (d : Dev nD) (g : GSem nD τ sig) (h : T₀ d g ≠ 0) : g.1 = (d.tc : Thread nD τ) := by
  by_contra hn
  refine h ?_
  unfold T₀
  rw [Pi.add_apply, Finset.sum_apply, Finset.sum_apply, Finset.sum_eq_zero, Finset.sum_eq_zero, add_zero]
  · intro k _
    split
    · exact tallyAt_ne_cell (fun e => hn (congrArg Prod.fst e)) _ _
    · rfl
  · intro k _
    split
    · exact tallyAt_ne_cell (fun e => hn (congrArg Prod.fst e)) _ _
    · rfl

/-- Single units add up. -/
theorem sum_units (g : GSem nD τ sig) (s : Finset (Dev nD)) : (∑ _k ∈ s, tallyAt g () 1) = (tallyAt g () s.card : CellTallies nD τ sig Unit) := by
  induction s using Finset.induction_on with
  | empty => rw [Finset.sum_empty, Finset.card_empty, tallyAt_zero]
  | insert a s ha ih => rw [Finset.sum_insert ha, ih, tallyAt_add, Finset.card_insert_of_notMem ha, Nat.add_comm]

/-- The barrier of device `d` is owed one unit by each of the `7 − d` higher devices. -/
theorem T₀_bar (d : Dev nD) : (∑ k : Dev nD, if d < k then tallyAt (barCell d) () 1 else 0) = (tallyAt (barCell d) () (7 - d.val) : CellTallies nD τ sig Unit) := by
  rw [← Finset.sum_filter, sum_units]
  congr 1
  revert d; decide

omit [FloatOps F] in
/-- The credit of a sum is a family of credits. -/
theorem cred_family (s : Finset (Dev nD)) (T : Dev nD → CellTallies nD τ sig Unit) : (cred (∑ j ∈ s, T j) : sProp 𝕄) ⊢ bigSep s fun j => cred (T j) := by
  induction s using Finset.induction_on with
  | empty => rw [Finset.sum_empty, cred_zero, BI.bigSep_empty]; exact BI.Entails.refl _
  | insert a s ha ih =>
    rw [Finset.sum_insert ha, BI.bigSep_insert ha]
    exact (cred_add _ _).1.trans (BI.sep_mono (BI.Entails.refl _) ih)

omit [FloatOps F] in
/-- The credit a device starts with: of its barrier, and of each lower device's copy. -/
theorem creds (c : Dev nD) : (Pipeline.launchCred O₀ c : sProp 𝕄) ⊢ iprop(cred (tallyAt (barCell c) () (7 - c.val)) ∗ bigSep Finset.univ (recvCred (F := F) c)) := by
  have hr : ∀ j : Dev nD, (cred (if j < c then tallyAt (recvCell c j) () N else 0) : sProp 𝕄) ⊢ recvCred c j := by
    intro j; unfold recvCred
    by_cases h : j < c
    · rw [if_pos h, if_pos h]
    · rw [if_neg h, if_neg h, cred_zero]
  rw [Pipeline.launchCred_of_sum O₀ T₀ owed_sum T₀_own c]
  unfold T₀
  rw [T₀_bar]
  exact ((cred_add _ _).1.trans BI.sep_comm).trans (BI.sep_mono (BI.Entails.refl _) ((cred_family _ _).trans (bigSep_mono fun j _ => hr j)))

/-! ## The theorem's side conditions -/

/-- The launch gives a device what its kernel starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have hg : ∀ K : Dev nD × CI → ℕ, iprop(levAts L lv ∗ records₀ m ρ K ∗ held (F := F) c) ⊢ ghost m ρ K c := by
    intro K
    unfold held ghost records₀ records
    rw [bigSep_CI, bigSep_OI]
    iintro ⟨#HL, ⟨#HI, #HR⟩, ⟨Hb, Hs, Hr⟩, Ht⟩
    isplitr
    · isplitr; · iexact HI
      isplitr; · iexact HR
      iexact HL
    isplitl [Hb]; · iexact Hb
    isplitl [Hs]; · iexact Hs
    isplitl [Hr]; · iexact Hr
    iexact Ht
  unfold G' start
  iintro ⟨-, Hlev, Hcr, -, ⟨%K, HG⟩⟩
  ihave Hc := (creds (F := F) c) $$ Hcr
  icases Hc with ⟨H1, HN⟩
  ihave Hg := (hg K) $$ [Hlev HG]
  · isplitl [Hlev] <;> iassumption
  imodintro
  isplitl
  · isplitl [Hg]; · iexists K; iexact Hg
    isplitl [H1] <;> iassumption
  · iempintro

/-- With the table, this is what the body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ tblPts
  iintro ⟨Hs, -, Hr⟩
  isplitl [Hs] <;> iassumption

/-- After the body every counter is at zero and the table is given back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ tblPts
  iintro ⟨Hr, HzS, HzV, HzB⟩
  isplitl [HzB]; · iexact HzB
  isplitl [HzS HzV]
  · isplitl [HzS] <;> iassumption
  iexact Hr

/-- The waits on the windows are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the arrays hold at the end. -/
def finalA (c : Dev nD) (w : Fin cfg0.W) : Buf (Elt F) ((cfg0.win w).arr.view.loc (c : Thread nD τ)) := (dats m ρ 0 c).arrAt w cfg0.N

/-- Every array of every device ends as `finalA` says. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the program on the eight devices
    terminates, with each device's result array at the computed contents, its argument unchanged, and every semaphore
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Cumprod
-- ==== Proof.Frames.lean ====
/-
The three frames: each program terminates from any memory with zero counters, leaves its argument as it was and every
semaphore counter at zero. And what the kernel leaves in its result array.
-/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Cumprod

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The result array ends at `outAt`: it is written once, and what is written is the whole array. -/
theorem finalA_result (c : Dev nD) : (finalA m ρ c (1 : Fin 2) : main_v1.ty.Contents (Elt F)) = outAt m ρ c := by
  have hz : (fun a => (win0_1.index (0 : Fin 1)) a * main_v1.ty.shape.size a) = fun _ => 0 :=
    funext fun a => by fin_cases a <;> decide
  refine (Memref.read_access_unit_zero (Elt F) main_v1 hz (fun a => by fin_cases a <;> decide) _).symm.trans ?_
  have hw := ((dats m ρ 0 c).arrAt_succ (1 : Fin 2) (0 : Fin 1)).trans (if_pos (by decide))
  exact (congrArg ((win0_1.blk (0 : Fin 1)).view.read (Elt F)) hw).trans (View.read_write_univ _ _)

/-- What the body reads of the argument is the whole argument array. -/
theorem xstg_eq (c : Dev nD) : (xstg m ρ c : main_arg0.ty.Contents (Elt F)) = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The kernel's frame, for any float values. -/
theorem frame_any : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => (h.1 c (0 : Fin 2)).trans (finalA_x m ρ c), h.2⟩) (run_main m ρ)

set_option maxRecDepth 10000 in
/-- The two readings of the kernel run the same text. -/
theorem defs_eq : Cert.Kernel.defs (F := F) = Cert.KernelIdeal.defs (F := F) := by
  refine congrArg (Pipeline.defs _) ?_
  unfold Cert.Kernel.defs₀ Cert.KernelIdeal.defs₀
  refine congrArg Defs.onTc (funext fun l => funext fun a => ?_)
  match l, a with
  | 0, (_, _) => rfl
  | ⟨_ + 1, h⟩, _ => exact absurd h (Nat.not_lt.2 (Nat.le_add_left _ _))

/-- On the values of the hardware's formats. -/
theorem frame_kernel : Cert.quiescent_Kernel := fun m ρ _ => by
  rw [defs_eq]
  exact frame_any (F := Bits) m ρ

/-- On extended reals. -/
theorem frame_kernelIdeal : Cert.quiescent_KernelIdeal := fun m ρ _ => frame_any (F := Ideal) m ρ

/-- The reference's frame: it declares no semaphore, and no operation writes its argument. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Cumprod
-- ==== Proof.Rows.lean ====
/-
Vectors of rows over the extended reals, read column by column: the operations of the kernel on a column as a function of
the row number, and the products of consecutive rows they make.
-/
module

public import proofs.«01_k».proof.Proof.Values
public import Idealize.ShloMosaic.Lib.IdealHost
public import Idealize.ShloMosaic.Lib.ValueIdx
public import Idealize.ShloMosaic.Lib.Pipeline.Value
public import Idealize.ShloMosaic.Lib.Pointwise.SelectCore

@[expose] public section

noncomputable section

namespace Cert.Cumprod

open Idealize.ShloMosaic
open Finset (range Ico)

/-! ## Products of consecutive rows -/

/-- The product of the last `s` of the rows `0 .. r`, or of all of them if there are fewer. -/
def lastProd (s : ℕ) (f : ℕ → EReal) (r : ℕ) : EReal := ∏ i ∈ Ico (r + 1 - s) (r + 1), f i

/-- The last one row is the row. -/
theorem lastProd_one (f : ℕ → EReal) (r : ℕ) : lastProd 1 f r = f r := by simp [lastProd]

/-- As many factors as there are rows: the prefix product. -/
theorem lastProd_all {s r : ℕ} (f : ℕ → EReal) (h : r < s) : lastProd s f r = ∏ i ∈ range (r + 1), f i := by
  rw [lastProd, Nat.sub_eq_zero_of_le h, Finset.range_eq_Ico]

/-- The doubling step: the last `s` factors times the `s` before them are the last `2 s`. -/
theorem lastProd_double (s : ℕ) (f : ℕ → EReal) (r : ℕ) :
    lastProd s f r * (if r < s then 1 else lastProd s f (r - s)) = lastProd (s + s) f r := by
  by_cases h : r < s
  · rw [if_pos h, mul_one, lastProd_all f h, lastProd_all f (by omega)]
  · rw [if_neg h, lastProd, lastProd, lastProd, mul_comm, show r - s + 1 - s = r + 1 - (s + s) by omega, show r - s + 1 = r + 1 - s by omega]
    exact Finset.prod_Ico_consecutive f (by omega) (by omega)

/-- Products of blocks of `k` consecutive rows multiply to the product of all of them. -/
theorem prod_blocks (k : ℕ) (f : ℕ → EReal) (n : ℕ) : ∏ g ∈ range n, ∏ i ∈ range k, f (k * g + i) = ∏ i ∈ range (k * n), f i := by
  induction n with
  | zero => simp
  | succ n ih => rw [Finset.prod_range_succ, ih, Nat.mul_succ, Finset.prod_range_add]

/-! ## A vector's column -/

/-- The vectors of `n` rows of 512 extended reals. -/
abbrev Rows (n : ℕ) : Type := (⟨2, ![n, 512]⟩ : Shape).Idx → EReal

/-- Column `q` of a vector as a function of the row number; `1` past the last row. -/
def col {n : ℕ} (v : Rows n) (q : Fin 512) (i : ℕ) : EReal := if h : i < n then v (ValueIdx.ix2 ⟨i, h⟩ q) else 1

/-- A column at a row that there is. -/
theorem col_lt {n : ℕ} (v : Rows n) (q : Fin 512) {i : ℕ} (h : i < n) : col v q i = v (ValueIdx.ix2 ⟨i, h⟩ q) := dif_pos h

/-- A product of vectors, on a column. -/
theorem col_mulf {n : ℕ} (v w : FVec Ideal ⟨2, ![n, 512]⟩ .f32) (q : Fin 512) (i : ℕ) : col (mulf v w) q i = col v q i * col w q i := by
  unfold col
  split
  · rfl
  · exact (mul_one 1).symm

/-- A slice of rows, on a column: the row number moves by the offset. -/
theorem col_slice {n k : ℕ} (o : ℕ) (v : Rows n) (h : (⟨2, ![n, 512]⟩ : Shape).Slices ![o, 0] ⟨2, ![k, 512]⟩) (q : Fin 512) {i : ℕ} (hi : i < k) :
    col (extractStridedSlice ⟨2, ![k, 512]⟩ ![o, 0] v h : Rows k) q i = col v q (o + i) := by
  have ho : o + k ≤ n := h.2 0
  rw [col_lt _ q hi, col_lt v q (show o + i < n by omega)]
  refine extractStridedSlice_apply _ v h _ _ fun a => ?_
  fin_cases a
  · rfl
  · exact (Nat.zero_add _).symm

/-- One vector above another. -/
theorem col_concat {s t n : ℕ} (x : Rows s) (y : Rows t)
    (h : Shape.Concatenates [⟨2, ![s, 512]⟩, ⟨2, ![t, 512]⟩] ⟨2, ![n, 512]⟩ 0) (q : Fin 512) {i : ℕ} (hi : i < n) :
    col (concatenate ⟨2, ![n, 512]⟩ 0 [⟨⟨2, ![s, 512]⟩, x⟩, ⟨⟨2, ![t, 512]⟩, y⟩] h : Rows n) q i = if i < s then col x q i else col y q (i - s) := by
  have hn : n = s + t := by have := h.size_axis; exact this.symm
  rw [col_lt _ q hi, concatenate_pair_apply]
  by_cases hs : i < s
  · rw [if_pos hs, col_lt x q hs]
    refine (dif_pos (show (ValueIdx.ix2 (⟨i, hi⟩ : Fin n) q 0).val < _ from hs)).trans ?_
    refine congrArg x (funext fun a => ?_)
    fin_cases a <;> rfl
  · rw [if_neg hs, col_lt y q (show i - s < t by omega)]
    refine (dif_neg (show ¬ (ValueIdx.ix2 (⟨i, hi⟩ : Fin n) q 0).val < _ from hs)).trans ?_
    refine congrArg y (funext fun a => ?_)
    fin_cases a <;> rfl

/-- The literal one is one. -/
theorem one_eq : (one : Ideal .f32) = (1 : EReal) := Ideal.ofBits_one_f32

/-- A column of the vector of ones. -/
theorem col_one {n : ℕ} (q : Fin 512) (i : ℕ) : col (broadcast ⟨2, ![n, 512]⟩ (one : Ideal .f32) : Rows n) q i = 1 := by
  unfold col
  split
  · exact one_eq
  · rfl

/-- A row spread over many rows, on a column. -/
theorem col_broadcast {n : ℕ} (v : Rows 1) (h : (⟨2, ![1, 512]⟩ : Shape).Broadcasts ⟨2, ![n, 512]⟩) (q : Fin 512) {i : ℕ} (hi : i < n) :
    col (broadcastTo ⟨2, ![n, 512]⟩ v h : Rows n) q i = col v q 0 := by
  rw [col_lt _ q hi, col_lt v q Nat.zero_lt_one]
  refine broadcastTo_apply v h _ _ fun a => ?_
  fin_cases a <;> rfl

/-! ## The kernel's two schemes -/

/-- Each row times the row `s` above it, if there is one. -/
theorem col_step {s t n : ℕ} (v : FVec Ideal ⟨2, ![n, 512]⟩ .f32) (hs : (⟨2, ![n, 512]⟩ : Shape).Slices ![0, 0] ⟨2, ![t, 512]⟩)
    (hc : Shape.Concatenates [⟨2, ![s, 512]⟩, ⟨2, ![t, 512]⟩] ⟨2, ![n, 512]⟩ 0) (q : Fin 512) (f : ℕ → EReal)
    (h : ∀ i < n, col v q i = lastProd s f i) (i : ℕ) (hi : i < n) :
    col (mulf v (concatenate ⟨2, ![n, 512]⟩ 0 [⟨⟨2, ![s, 512]⟩, broadcast ⟨2, ![s, 512]⟩ (one : Ideal .f32)⟩,
      ⟨⟨2, ![t, 512]⟩, extractStridedSlice ⟨2, ![t, 512]⟩ ![0, 0] v hs⟩] hc)) q i = lastProd (s + s) f i := by
  have hn : n = s + t := by have := hc.size_axis; exact this.symm
  rw [← lastProd_double, col_mulf, h i hi]
  refine congrArg (lastProd s f i * ·) ((col_concat _ _ hc q hi).trans ?_)
  by_cases hlt : i < s
  · rw [if_pos hlt, if_pos hlt, col_one]
  · rw [if_neg hlt, if_neg hlt]
    refine (col_slice 0 v hs q (show i - s < t by omega)).trans ?_
    rw [Nat.zero_add, h (i - s) (by omega)]

/-- The upper half times the lower half has the same product. -/
theorem prod_half {n k : ℕ} (v : FVec Ideal ⟨2, ![n, 512]⟩ .f32) (h0 : (⟨2, ![n, 512]⟩ : Shape).Slices ![0, 0] ⟨2, ![k, 512]⟩)
    (h1 : (⟨2, ![n, 512]⟩ : Shape).Slices ![k, 0] ⟨2, ![k, 512]⟩) (hn : n = k + k) (q : Fin 512) :
    ∏ i ∈ range k, col (mulf (extractStridedSlice ⟨2, ![k, 512]⟩ ![0, 0] v h0) (extractStridedSlice ⟨2, ![k, 512]⟩ ![k, 0] v h1) : FVec Ideal ⟨2, ![k, 512]⟩ .f32) q i
      = ∏ i ∈ range n, col v q i := by
  subst hn
  rw [Finset.prod_range_add, ← Finset.prod_mul_distrib]
  refine Finset.prod_congr rfl fun i hi => ?_
  have hi := Finset.mem_range.mp hi
  rw [col_mulf]
  refine congrArg₂ (· * ·) ((col_slice 0 v h0 q hi).trans (by rw [Nat.zero_add])) (col_slice k v h1 q hi)

end Cert.Cumprod
-- ==== Proof.Products.lean ====
/-
What the kernel computes, over the extended reals: every element of a device's result is the product of the elements of its
column that do not stand below it, in the device's block and in the blocks before it.
-/
module

public import proofs.«01_k».proof.Proof.Rows

@[expose] public section

noncomputable section

namespace Cert.Cumprod

open Cert.KernelIdeal Cert.KernelIdeal.Gen
open Idealize.ShloMosaic
open Finset (range)

/-! ## A block's total -/

/-- The upper half of the rows times the lower half. -/
def half {n : ℕ} (k : ℕ) (v : FVec Ideal ⟨2, ![n, 512]⟩ .f32) (h0 : (⟨2, ![n, 512]⟩ : Shape).Slices ![0, 0] ⟨2, ![k, 512]⟩)
    (h1 : (⟨2, ![n, 512]⟩ : Shape).Slices ![k, 0] ⟨2, ![k, 512]⟩) : FVec Ideal ⟨2, ![k, 512]⟩ .f32 :=
  mulf (extractStridedSlice ⟨2, ![k, 512]⟩ ![0, 0] v h0) (extractStridedSlice ⟨2, ![k, 512]⟩ ![k, 0] v h1)

/-- The block as the body reads it is the block. -/
theorem pay1_eq (x : Vec Ideal S1024x512 .f32) : k0_pay1 x = x := shapeCast_self x _

/-- The total is the block's rows halved ten times. -/
theorem tot_eq (x : Vec Ideal S1024x512 .f32) : tot x = shapeCast S1x512
    (half 1 (half 2 (half 4 (half 8 (half 16 (half 32 (half 64 (half 128 (half 256 (half 512 (k0_pay1 x)
      slices_S1024x512_o0_0_S512x512 slices_S1024x512_o512_0_S512x512)
      slices_S512x512_o0_0_S256x512 slices_S512x512_o256_0_S256x512)
      slices_S256x512_o0_0_S128x512 slices_S256x512_o128_0_S128x512)
      slices_S128x512_o0_0_S64x512 slices_S128x512_o64_0_S64x512)
      slices_S64x512_o0_0_S32x512 slices_S64x512_o32_0_S32x512)
      slices_S32x512_o0_0_S16x512 slices_S32x512_o16_0_S16x512)
      slices_S16x512_o0_0_S8x512 slices_S16x512_o8_0_S8x512)
      slices_S8x512_o0_0_S4x512 slices_S8x512_o4_0_S4x512)
      slices_S4x512_o0_0_S2x512 slices_S4x512_o2_0_S2x512)
      slices_S2x512_o0_0_S1x512 slices_S2x512_o1_0_S1x512) shapeCasts_S1x512_S1x512 := rfl

/-- A block's total is the product of its rows. -/
theorem col_tot (x : Vec Ideal S1024x512 .f32) (q : Fin 512) : col (tot x : Rows 1) q 0 = ∏ i ∈ range 1024, col (x : Rows 1024) q i := by
  rw [tot_eq, shapeCast_self, pay1_eq]
  refine (Finset.prod_range_one _).symm.trans ?_
  iterate 10 refine (prod_half _ _ _ (by norm_num) q).trans ?_
  rfl

/-! ## The prefix products of 32 rows -/

/-- Five doublings make the prefix products of 32 rows. -/
theorem col_scanV (v : FVec Ideal S32x512 .f32) (q : Fin 512) (i : ℕ) (hi : i < 32) :
    col (scanV v : Rows 32) q i = ∏ j ∈ range (i + 1), col (v : Rows 32) q j := by
  have h0 : ∀ i < 32, col (v : Rows 32) q i = lastProd 1 (col (v : Rows 32) q) i := fun i _ => (lastProd_one _ i).symm
  have h1 := col_step v slices_S32x512_o0_0_S31x512 concatenates_S1x512_S31x512_S32x512_d0 q _ h0
  have h2 := col_step (step1 v) slices_S32x512_o0_0_S30x512 concatenates_S2x512_S30x512_S32x512_d0 q _ h1
  have h4 := col_step (step2 (step1 v)) slices_S32x512_o0_0_S28x512 concatenates_S4x512_S28x512_S32x512_d0 q _ h2
  have h8 := col_step (step4 (step2 (step1 v))) slices_S32x512_o0_0_S24x512 concatenates_S8x512_S24x512_S32x512_d0 q _ h4
  have h16 := col_step (step8 (step4 (step2 (step1 v)))) slices_S32x512_o0_0_S16x512 concatenates_S16x512_S16x512_S32x512_d0 q _ h8
  exact (h16 i hi).trans (lastProd_all _ hi)

/-- Row `r` of chunk `g` is the product of the chunk's rows up to `r`. -/
theorem col_chunkV (x : Vec Ideal S1024x512 .f32) (q : Fin 512) {g r : ℕ} (hg : g < 32) (hr : r < 32) :
    col (chunkV x g : Rows 32) q r = ∏ i ∈ range (r + 1), col (x : Rows 1024) q (32 * g + i) := by
  refine (col_scanV _ q r hr).trans (Finset.prod_congr rfl fun i hi => ?_)
  have hi := Finset.mem_range.mp hi
  refine (col_slice _ _ (chunk_slices g) q (show i < 32 by omega)).trans ?_
  rw [pay1_eq, Nat.mod_eq_of_lt hg]

/-- The last row of chunk `g` is the product of the whole chunk. -/
theorem col_lastsV (x : Vec Ideal S1024x512 .f32) (q : Fin 512) {g : ℕ} (hg : g < 32) :
    col (lastsV x : Rows 32) q g = ∏ i ∈ range 32, col (x : Rows 1024) q (32 * g + i) := by
  rw [← col_chunkV x q hg (show 31 < 32 by norm_num)]
  refine Eq.trans ?_ (col_slice 31 (chunkV x g : Rows 32) slices_S32x512_o31_0_S1x512 q Nat.zero_lt_one)
  rw [col_lt _ q hg, col_lt _ q Nat.zero_lt_one]
  refine concatenate_ofFn_unit_apply 0 _ (lasts_concatenates _) rfl rfl _ ⟨g, hg⟩ rfl _ fun b hb => ?_
  fin_cases b
  · exact absurd rfl hb
  · rfl

/-- The product of all chunks up to chunk `g`. -/
theorem col_gpV (x : Vec Ideal S1024x512 .f32) (q : Fin 512) {g : ℕ} (hg : g < 32) :
    col (gpV x : Rows 32) q g = ∏ i ∈ range (32 * (g + 1)), col (x : Rows 1024) q i := by
  rw [← prod_blocks]
  refine (col_scanV _ q g hg).trans (Finset.prod_congr rfl fun k hk => ?_)
  exact col_lastsV x q (by have := Finset.mem_range.mp hk; omega)

/-! ## The devices before -/

/-- Device `j`'s total if `j` stands before device `c`, and ones otherwise. -/
def before (c j : Dev nD) (v : FVec Ideal S1x512 .f32) : FVec Ideal S1x512 .f32 :=
  Scalar.select (Scalar.cmpi .sgt (dw c) (BitVec.ofNat 32 j.val)) v (broadcast S1x512 (one : Ideal .f32))

/-- On a column: the total or one. -/
theorem col_before (c j : Dev nD) (v : FVec Ideal S1x512 .f32) (q : Fin 512) :
    col (before c j v : Rows 1) q 0 = if j.val < c.val then col (v : Rows 1) q 0 else 1 := by
  have hc : Scalar.cmpi .sgt (dw c) (BitVec.ofNat 32 j.val) = 1 ↔ j.val < c.val := gt_iff c j
  unfold before Scalar.select
  by_cases h : j.val < c.val
  · rw [if_pos (hc.mpr h), if_pos h]
  · rw [if_neg (fun h' => h (hc.mp h')), if_neg h]
    exact col_one q 0

/-- The product of the totals of the devices before `c`. -/
def belowV (c : Dev nD) (T : Dev nD → FVec Ideal S1x512 .f32) : FVec Ideal S1x512 .f32 :=
  mulf (mulf (mulf (mulf (mulf (mulf (mulf (broadcast S1x512 (one : Ideal .f32)) (before c 0 (T 0))) (before c 1 (T 1))) (before c 2 (T 2)))
    (before c 3 (T 3))) (before c 4 (T 4))) (before c 5 (T 5))) (before c 6 (T 6))

/-- The product over the seven candidates is the product of the totals of the devices before `c`. -/
theorem col_belowV (c : Dev nD) (T : Dev nD → FVec Ideal S1x512 .f32) (q : Fin 512) (t : ℕ → EReal)
    (h : ∀ j : Dev nD, col (T j : Rows 1) q 0 = t j.val) : col (belowV c T : Rows 1) q 0 = ∏ j ∈ range c.val, t j := by
  have hs : range c.val = (range 7).filter (· < c.val) := by
    ext j
    have : c.val < 8 := c.isLt
    simp only [Finset.mem_range, Finset.mem_filter]
    omega
  unfold belowV
  rw [hs, Finset.prod_filter]
  simp only [Finset.prod_range_succ, Finset.prod_range_zero, col_mulf, col_before, h]
  rw [col_one]
  rfl

/-- What stands before each chunk: the chunks below it, times the devices before. -/
theorem exclV_eq (c : Dev nD) (T : Dev nD → FVec Ideal S1x512 .f32) (x : Vec Ideal S1024x512 .f32) :
    exclV c T x = mulf (concatenate S32x512 0 [⟨S1x512, broadcast S1x512 (one : Ideal .f32)⟩,
      ⟨S31x512, extractStridedSlice S31x512 ![0, 0] (gpV x) slices_S32x512_o0_0_S31x512⟩] concatenates_S1x512_S31x512_S32x512_d0)
      (broadcastTo S32x512 (belowV c T) broadcasts_S1x512_S32x512) := rfl

/-- Row `g` of `exclV`: the product of the chunks before chunk `g` and of the devices before `c`. -/
theorem col_exclV (c : Dev nD) (T : Dev nD → FVec Ideal S1x512 .f32) (x : Vec Ideal S1024x512 .f32) (q : Fin 512) (t : ℕ → EReal)
    (h : ∀ j : Dev nD, col (T j : Rows 1) q 0 = t j.val) {g : ℕ} (hg : g < 32) :
    col (exclV c T x : Rows 32) q g = (∏ i ∈ range (32 * g), col (x : Rows 1024) q i) * ∏ j ∈ range c.val, t j := by
  rw [exclV_eq, col_mulf]
  refine congrArg₂ (· * ·) ((col_concat _ _ concatenates_S1x512_S31x512_S32x512_d0 q hg).trans ?_)
    ((col_broadcast _ broadcasts_S1x512_S32x512 q hg).trans (col_belowV c T q t h))
  by_cases h0 : g < 1
  · rw [if_pos h0, col_one, Nat.lt_one_iff.mp h0]
    rfl
  · rw [if_neg h0]
    refine (col_slice 0 _ slices_S32x512_o0_0_S31x512 q (show g - 1 < 31 by omega)).trans ?_
    rw [Nat.zero_add, col_gpV x q (show g - 1 < 32 by omega), Nat.sub_add_cancel (by omega)]

/-- An element of the result. -/
theorem col_outV (c : Dev nD) (T : Dev nD → FVec Ideal S1x512 .f32) (x : Vec Ideal S1024x512 .f32) (q : Fin 512) (t : ℕ → EReal)
    (h : ∀ j : Dev nD, col (T j : Rows 1) q 0 = t j.val) {g r : ℕ} (hg : g < 32) (hr : r < 32) :
    (outV c T x g : Rows 32) (ValueIdx.ix2 ⟨r, hr⟩ q) = (∏ j ∈ range c.val, t j) * ∏ i ∈ range (32 * g + r + 1), col (x : Rows 1024) q i := by
  rw [add_assoc, Finset.prod_range_add, ← mul_assoc, mul_comm (∏ j ∈ range c.val, t j), ← col_exclV c T x q t h hg, mul_comm, ← col_chunkV x q hg hr,
    col_lt (chunkV x g : Rows 32) q hr]
  refine congrArg ((chunkV x g : Rows 32) (ValueIdx.ix2 ⟨r, hr⟩ q) * ·) ?_
  refine (col_lt (n := 32) _ q hr).symm.trans ?_
  refine (col_broadcast _ broadcasts_S1x512_S32x512 q hr).trans ((col_slice _ _ (row_slices g) q Nat.zero_lt_one).trans ?_)
  rw [Nat.mod_eq_of_lt hg, Nat.add_zero]

end Cert.Cumprod
-- ==== Proof.Reference.lean ====
/-
What the reference computes, over the extended reals: the running product of each column, row after row.
-/
module

public import proofs.«01_k».proof.Proof.Rows
public import proofs.«01_k».proof.Proof.Gen.ReferenceIdeal.Run
public import Idealize.ShloMosaic.Lib.DynamicIndex
public import Idealize.ShloMosaic.Lib.Pointwise.ShapeOpsCore

@[expose] public section

noncomputable section

namespace Cert.Cumprod.Ref

open Cert.ReferenceIdeal Cert.ReferenceIdeal.Gen Cert.ReferenceIdeal.Value
open Idealize.ShloMosaic Idealize.ShloMosaic.TcCoe
open Idealize.ShloMosaic.StableHlo
open Idealize.SL.Sem
open Finset (range)

variable (m : (ℓ : Loc nD τ sig) → Buf (Elt Ideal) ℓ) (ρ : Dev nD → PrngReg)

/-- The whole argument array. -/
def arg : Rows 8192 := m (((0 : Dev nD).tc : Thread nD τ).loc main_arg0)

/-- The whole result: each element is the product of its column down to it. -/
def cumprod (X : Rows 8192) : Rows 8192 := fun i => ∏ k ∈ range ((i 0).val + 1), col X ⟨(i 1).val, (i 1).isLt⟩ k

/-! ## One row read, one row written -/

/-- Row `k`, read by the loop's slice and reshape. -/
theorem row_read (X : Rows 8192) (start : Fin 2 → Int) {k : ℕ} (hk : k < 8192) (h0 : start 0 = k) (h1 : start 1 = 0) (q : Fin 512) :
    (shapeCast S512 (Host.dynamicSlice S1x512 X start sliceFits_S8192x512_S1x512) shapeCasts_S1x512_S512 : S512.Idx → EReal) (ValueIdx.ix1 q) = col X q k := by
  have hs : S8192x512.Slices ![k, 0] S1x512 := ⟨rfl, fun a => by
    fin_cases a
    · show k + 1 ≤ 8192; omega
    · show 0 + 512 ≤ 512; omega⟩
  rw [Host.dynamicSlice_eq_extractStridedSlice S1x512 X start ![k, 0] _ hs (fun a => by fin_cases a; exacts [h0, h1]),
    shapeCast_apply _ _ (ValueIdx.ix1 q) (ValueIdx.ix2 (0 : Fin 1) q) (by rw [Shape.rowMajor_val_two, Shape.rowMajor_val_one]; simp)]
  exact (col_lt (n := 1) _ q Nat.zero_lt_one).symm.trans (col_slice k X hs q Nat.zero_lt_one)

/-- The result after row `k` is written: that row where it was written, the others as they were. -/
theorem row_write (Y : Rows 8192) (p : S512.Idx → EReal) (start : Fin 2 → Int) {k : ℕ} (hk : k < 8192) (h0 : start 0 = k) (h1 : start 1 = 0) (q : Fin 512)
    {i : ℕ} (hi : i < 8192) :
    (Host.dynamicUpdateSlice Y (broadcastInDim S1x512 ![1] bcast_S512_S1x512_1 p) start updateFits_S8192x512_S1x512 : Rows 8192) (ValueIdx.ix2 ⟨i, hi⟩ q)
      = if i = k then p (ValueIdx.ix1 q) else Y (ValueIdx.ix2 ⟨i, hi⟩ q) := by
  have c0 : Host.clampedStart S8192x512 S1x512 rfl start 0 = k := Host.clampedStart_of_le (s := S8192x512) (t := S1x512) rfl start 0 k h0 (by show k + 1 ≤ 8192; omega)
  have c1 : Host.clampedStart S8192x512 S1x512 rfl start 1 = 0 := Host.clampedStart_of_le (s := S8192x512) (t := S1x512) rfl start 1 0 h1 (by show 0 + 512 ≤ 512; omega)
  rw [Host.dynamicUpdateSlice_apply]
  by_cases h : i = k
  · rw [if_pos h]
    refine (dif_pos fun a => ?_).trans ?_
    · fin_cases a
      · show Host.clampedStart S8192x512 S1x512 rfl start 0 ≤ i ∧ i < Host.clampedStart S8192x512 S1x512 rfl start 0 + 1
        rw [c0]; omega
      · show Host.clampedStart S8192x512 S1x512 rfl start 1 ≤ q.val ∧ q.val < Host.clampedStart S8192x512 S1x512 rfl start 1 + 512
        rw [c1]; omega
    · refine broadcastInDim_apply _ _ p _ _ fun a => ?_
      fin_cases a
      show q.val = q.val - Host.clampedStart S8192x512 S1x512 rfl start 1
      rw [c1, Nat.sub_zero]
  · rw [if_neg h]
    refine dif_neg fun hin => h ?_
    have := hin 0
    change Host.clampedStart S8192x512 S1x512 rfl start 0 ≤ i ∧ i < Host.clampedStart S8192x512 S1x512 rfl start 0 + 1 at this
    rw [c0] at this
    omega

/-! ## The loop -/

/-- Every buffer's contents after `k` rows. -/
def at_ (k : ℕ) : Valuation τ sig (Elt Ideal) := STEP^[k] (entryContents preI m 0)

/-- One more row is one more step of the loop. -/
theorem at_succ (k : ℕ) : at_ m (k + 1) = STEP (at_ m k) := Function.iterate_succ_apply' _ _ _

/-- The loop leaves the argument alone. -/
theorem at_arg (k : ℕ) : (at_ m k (Proc.devRef .tc main_v2_0) : Rows 8192) = arg m := by
  induction k with
  | zero =>
    show entryContents preI m 0 (Proc.devRef .tc main_v2_0) = _
    simp only [entryContents, afterL_cons, afterL_nil]
    after_reads_simp
    rfl
  | succ k ih => rw [at_succ, STEP_main_v2_0]; exact ih

/-- After `k` rows the counter is `k`. -/
theorem at_counter (k : ℕ) : (at_ m k (Proc.devRef .tc main_v2_1) : S_.Idx → BitVec 32) = fun _ => BitVec.ofNat 32 k := by
  induction k with
  | zero => exact ctr_entry m 0
  | succ k ih =>
    rw [at_succ, STEP_main_v2_1]
    refine (congrArg (addi · (constantI S_ 32 1#32)) ih).trans (funext fun _ => ?_)
    show BitVec.ofNat 32 k + 1#32 = _
    exact (BitVec.ofNat_add k 1).symm

/-- The row the loop reads and writes. -/
theorem start_zero {k : ℕ} (hk : k < 8192) :
    ((![at_ m k (Proc.devRef .tc main_v2_1), constantI S_ 32 0#32] : Fin 2 → (⟨S_, .i32⟩ : BufTy).Contents (Elt Ideal)) 0 (Shape.Idx.first h_S_)).toInt = k := by
  show (at_ m k (Proc.devRef .tc main_v2_1) (Shape.Idx.first h_S_) : BitVec 32).toInt = k
  rw [at_counter m k]
  exact toInt_ofNat_of_lt (by omega)

/-- The running product after `k` rows. -/
theorem at_product {k : ℕ} (hk : k ≤ 8192) (q : Fin 512) :
    (at_ m k (Proc.devRef .tc main_v2_2) : S512.Idx → EReal) (ValueIdx.ix1 q) = ∏ j ∈ range k, col (arg m) q j := by
  induction k with
  | zero =>
    show (entryContents preI m 0 (Proc.devRef .tc main_v2_2) : S512.Idx → EReal) _ = _
    simp only [entryContents, afterL_cons, afterL_nil]
    after_reads_simp
    exact Ideal.ofBits_one_f32
  | succ k ih =>
    rw [at_succ, STEP_main_v2_2, Finset.prod_range_succ, ← ih (by omega)]
    refine congrArg (fun z : EReal => (show EReal from (at_ m k (Proc.devRef .tc main_v2_2) : S512.Idx → EReal) (ValueIdx.ix1 q)) * z) ?_
    rw [at_arg m k]
    exact row_read (arg m) _ (by omega) (start_zero m (by omega)) rfl q

/-- The rows written after `k` of them. -/
theorem at_rows {k : ℕ} (hk : k ≤ 8192) (q : Fin 512) {i : ℕ} (hi : i < k) (hi' : i < 8192) :
    (at_ m k (Proc.devRef .tc main_v2_3) : Rows 8192) (ValueIdx.ix2 ⟨i, hi'⟩ q) = ∏ j ∈ range (i + 1), col (arg m) q j := by
  induction k with
  | zero => exact absurd hi (Nat.not_lt_zero i)
  | succ k ih =>
    rw [at_succ, STEP_main_v2_3]
    refine (row_write _ _ _ (show k < 8192 by omega) (start_zero m (by omega)) rfl q hi').trans ?_
    by_cases h : i = k
    · rw [if_pos h, h, ← at_product m hk q, at_succ, STEP_main_v2_2]
      rfl
    · rw [if_neg h]
      exact ih (by omega) (by omega)

/-- The result the reference leaves. -/
theorem result : (out_main_v3 (STEP^[8192] (entryContents preI m 0)) : Rows 8192) = cumprod (arg m) := by
  funext i
  rw [ValueIdx.eq_ix2 i]
  exact at_rows m le_rfl ⟨(i 1).val, (i 1).isLt⟩ (i 0).isLt (i 0).isLt

end Cert.Cumprod.Ref
-- ==== Proof.Algebraic.lean ====
/-
The kernel on eight devices and the reference on one compute the same array over the extended reals: device `c`'s result
is block `c` of the reference's.
-/
module

public import proofs.«01_k».proof.Proof.Frames
public import proofs.«01_k».proof.Proof.Products
public import proofs.«01_k».proof.Proof.Reference

@[expose] public section

noncomputable section

namespace Cert.Cumprod

open Cert.KernelIdeal Cert.KernelIdeal.Gen
open Idealize.ShloMosaic Idealize.ShloMosaic.TcCoe
open Idealize.SL.Sem
open Finset (range)

variable (m : (ℓ : Loc nD τ sig) → Buf (Elt Ideal) ℓ) (ρ : Dev nD → PrngReg)

/-- Device `c`'s block of an array of 8192 rows. -/
abbrev blockOf (X : Rows 8192) (c : Dev nD) : Rows 1024 := Layout.block ⟨2, ![1024, 512]⟩ ⟨2, ![8192, 512]⟩ 0 8 c X

/-- Row `i` of block `c` is row `1024 c + i` of the array. -/
theorem col_block (X : Rows 8192) (c : Dev nD) (q : Fin 512) {i : ℕ} (hi : i < 1024) :
    col (blockOf X c) q i = col X q (1024 * c.val + i) := by
  have hc : c.val < 8 := c.isLt
  rw [col_lt _ q hi, col_lt X q (show 1024 * c.val + i < 8192 by omega)]
  refine congrArg X (funext fun a => Fin.ext ?_)
  fin_cases a
  · show c.val * 1024 + i = 1024 * c.val + i
    rw [Nat.mul_comm]
  · rfl

/-- If each device holds its block of `X`, each device's result is its block of the reference's. -/
theorem outAt_eq (X : Rows 8192) (hX : ∀ c : Dev nD, m ((c : Thread nD τ).loc main_arg0) = blockOf X c) (c : Dev nD) :
    (outAt m ρ c : Rows 1024) = blockOf (Ref.cumprod X) c := by
  have hx : ∀ j, (xstg m ρ j : Rows 1024) = blockOf X j := fun j => (xstg_eq m ρ j).trans (hX j)
  have ht : ∀ (q : Fin 512) (j : Dev nD), col (tot (xstg m ρ j) : Rows 1) q 0 = ∏ i ∈ range 1024, col X q (1024 * j.val + i) := fun q j => by
    rw [col_tot, hx j]
    exact Finset.prod_congr rfl fun i hi => col_block X j q (Finset.mem_range.mp hi)
  funext i
  have hi : (i 0).val < 1024 := (i 0).isLt
  refine (col_outV c (fun j => tot (xstg m ρ j)) (xstg m ρ c) ⟨(i 1).val, (i 1).isLt⟩ (fun j => ∏ k ∈ range 1024, col X ⟨(i 1).val, (i 1).isLt⟩ (1024 * j + k))
    (ht _) (show (i 0).val / 32 < 32 by omega) (Nat.mod_lt _ (by norm_num))).trans ?_
  rw [Nat.div_add_mod, prod_blocks, hx c]
  have hb : ∏ k ∈ range ((i 0).val + 1), col (blockOf X c) ⟨(i 1).val, (i 1).isLt⟩ k
      = ∏ k ∈ range ((i 0).val + 1), col X ⟨(i 1).val, (i 1).isLt⟩ (1024 * c.val + k) :=
    Finset.prod_congr rfl fun k hk => col_block X c _ (by have := Finset.mem_range.mp hk; omega)
  rw [hb, ← Finset.prod_range_add, ← Nat.add_assoc, Nat.mul_comm 1024]
  rfl

/-- Kernel and reference compute the same array over the extended reals. -/
theorem algebraic : Cert.algebraic_KernelIdeal_ReferenceIdeal := by
  intro m ρ m' ρ' _ hagree
  refine ⟨Ref.cumprod (Ref.arg m'), ?_, ?_⟩
  · exact (θ_run defs _ _).mono
      (fun _ h c => ⟨(h.1 c (1 : Fin 2)).trans ((finalA_result m ρ c).trans (outAt_eq m ρ (Ref.arg m') hagree c)),
        (h.1 c (0 : Fin 2)).trans (finalA_x m ρ c)⟩)
      (run_main (F := Ideal) m ρ)
  · exact (θ_run Cert.ReferenceIdeal.defs _ _).mono (fun _ h => ⟨(h 0).1.trans (Ref.result m'), (h 0).2⟩)
      (Cert.ReferenceIdeal.Value.run (F := Ideal) m' ρ')

end Cert.Cumprod
-- ==== Proof.lean ====
/-
The distributed cumulative product: the claims of the certificate, each taken from the module that proves it.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

/-- All five claims, after the facts of the three programs. -/
theorem claim : Cert.Claim :=
  ⟨Cert.Kernel.Gen.facts, Cert.KernelIdeal.Gen.facts, Cert.ReferenceIdeal.Gen.facts,
    Cert.Cumprod.frame_kernel, Cert.Cumprod.frame_kernelIdeal, Cert.Cumprod.frame_referenceIdeal, trivial,
    Cert.Cumprod.algebraic⟩

end Cert.Proof

end
